-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S1 : Shape := ⟨1, ![1]⟩
abbrev S128x8192 : Shape := ⟨2, ![128, 8192]⟩
abbrev S128x4096 : Shape := ⟨2, ![128, 4096]⟩
abbrev S4x256x8192 : Shape := ⟨3, ![4, 256, 8192]⟩
abbrev S4 : Shape := ⟨1, ![4]⟩
abbrev S32 : Shape := ⟨1, ![32]⟩
abbrev S_ : Shape := ⟨0, ![]⟩
abbrev S128x128 : Shape := ⟨2, ![128, 128]⟩
abbrev S1x256x8192 : Shape := ⟨3, ![1, 256, 8192]⟩
abbrev S256x8192 : Shape := ⟨2, ![256, 8192]⟩
abbrev S128x256 : Shape := ⟨2, ![128, 256]⟩

abbrev nBuf : Space → Nat
  | .hbm => 5
  | .vmem => 5
  | .smem => 2
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S4096x128, .fp8e4m3⟩
  | .local _ .vmem, ⟨3, _⟩ => ⟨S128x4096, .fp8e4m3⟩
  | .local _ .vmem, ⟨4, _⟩ => ⟨S4x256x8192, .f32⟩
  | .local _ .smem, ⟨0, _⟩ => ⟨S1, .f32⟩
  | .local _ .smem, ⟨1, _⟩ => ⟨S1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v134 : BitVec 32 := Scalar.muli v2 c128_i32
  let v135 : Index := Scalar.indexCast v134
  let c0_128 : Index := 0#32
  ![v135.toNat, 0]
def k0_off2 (d0 : Dev nD) : Fin 2 → Nat :=
  let c0_130 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_129 : BitVec 32 := 128#32
  let v137 : BitVec 32 := Scalar.muli v2 c128_i32_129
  let v138 : Index := Scalar.indexCast v137
  ![0, v138.toNat]
def k0_off3 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_134 : BitVec 32 := 128#32
  let v145 : BitVec 32 := Scalar.muli v2 c128_i32_134
  ![0, v145.toNat]
def k0_off4 (d0 : Dev nD) (c1_i32_131 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v142 : BitVec 32 := Scalar.addi v2 c1_i32_131
  let c32_i32_132 : BitVec 32 := 32#32
  let v143 : BitVec 32 := Scalar.remsi v142 c32_i32_132
  let c128_i32_133 : BitVec 32 := 128#32
  let v144 : BitVec 32 := Scalar.muli v143 c128_i32_133
  let c0_i32_140 : BitVec 32 := 0#32
  ![v144.toNat, 0]
def k0_dev32 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_131 : BitVec 32 := 1#32
  let v142 : BitVec 32 := Scalar.addi v2 c1_i32_131
  let c32_i32_132 : BitVec 32 := 32#32
  let v143 : BitVec 32 := Scalar.remsi v142 c32_i32_132
  let c1_i32_137 : BitVec 32 := 1#32
  let v146 : BitVec 32 := Scalar.muli v143 c1_i32_137
  let v147 : BitVec 32 := Scalar.addi c0_i32_138 v146
  v147.toNat
def k0_dev33 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_141 : BitVec 32 := 2#32
  let v154 : BitVec 32 := Scalar.addi v2 c2_i32_141
  let c32_i32_142 : BitVec 32 := 32#32
  let v155 : BitVec 32 := Scalar.remsi v154 c32_i32_142
  let c1_i32_147 : BitVec 32 := 1#32
  let v158 : BitVec 32 := Scalar.muli v155 c1_i32_147
  let v159 : BitVec 32 := Scalar.addi c0_i32_148 v158
  v159.toNat
def k0_dev34 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_151 : BitVec 32 := 3#32
  let v166 : BitVec 32 := Scalar.addi v2 c3_i32_151
  let c32_i32_152 : BitVec 32 := 32#32
  let v167 : BitVec 32 := Scalar.remsi v166 c32_i32_152
  let c1_i32_157 : BitVec 32 := 1#32
  let v170 : BitVec 32 := Scalar.muli v167 c1_i32_157
  let v171 : BitVec 32 := Scalar.addi c0_i32_158 v170
  v171.toNat
def k0_dev35 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_161 : BitVec 32 := 4#32
  let v178 : BitVec 32 := Scalar.addi v2 c4_i32_161
  let c32_i32_162 : BitVec 32 := 32#32
  let v179 : BitVec 32 := Scalar.remsi v178 c32_i32_162
  let c1_i32_167 : BitVec 32 := 1#32
  let v182 : BitVec 32 := Scalar.muli v179 c1_i32_167
  let v183 : BitVec 32 := Scalar.addi c0_i32_168 v182
  v183.toNat
def k0_dev36 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_171 : BitVec 32 := 5#32
  let v190 : BitVec 32 := Scalar.addi v2 c5_i32_171
  let c32_i32_172 : BitVec 32 := 32#32
  let v191 : BitVec 32 := Scalar.remsi v190 c32_i32_172
  let c1_i32_177 : BitVec 32 := 1#32
  let v194 : BitVec 32 := Scalar.muli v191 c1_i32_177
  let v195 : BitVec 32 := Scalar.addi c0_i32_178 v194
  v195.toNat
def k0_dev37 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_181 : BitVec 32 := 6#32
  let v202 : BitVec 32 := Scalar.addi v2 c6_i32_181
  let c32_i32_182 : BitVec 32 := 32#32
  let v203 : BitVec 32 := Scalar.remsi v202 c32_i32_182
  let c1_i32_187 : BitVec 32 := 1#32
  let v206 : BitVec 32 := Scalar.muli v203 c1_i32_187
  let v207 : BitVec 32 := Scalar.addi c0_i32_188 v206
  v207.toNat
def k0_dev38 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_191 : BitVec 32 := 7#32
  let v214 : BitVec 32 := Scalar.addi v2 c7_i32_191
  let c32_i32_192 : BitVec 32 := 32#32
  let v215 : BitVec 32 := Scalar.remsi v214 c32_i32_192
  let c1_i32_197 : BitVec 32 := 1#32
  let v218 : BitVec 32 := Scalar.muli v215 c1_i32_197
  let v219 : BitVec 32 := Scalar.addi c0_i32_198 v218
  v219.toNat
def k0_dev39 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_201 : BitVec 32 := 8#32
  let v226 : BitVec 32 := Scalar.addi v2 c8_i32_201
  let c32_i32_202 : BitVec 32 := 32#32
  let v227 : BitVec 32 := Scalar.remsi v226 c32_i32_202
  let c1_i32_207 : BitVec 32 := 1#32
  let v230 : BitVec 32 := Scalar.muli v227 c1_i32_207
  let v231 : BitVec 32 := Scalar.addi c0_i32_208 v230
  v231.toNat
def k0_dev40 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_211 : BitVec 32 := 9#32
  let v238 : BitVec 32 := Scalar.addi v2 c9_i32_211
  let c32_i32_212 : BitVec 32 := 32#32
  let v239 : BitVec 32 := Scalar.remsi v238 c32_i32_212
  let c1_i32_217 : BitVec 32 := 1#32
  let v242 : BitVec 32 := Scalar.muli v239 c1_i32_217
  let v243 : BitVec 32 := Scalar.addi c0_i32_218 v242
  v243.toNat
def k0_dev41 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_221 : BitVec 32 := 10#32
  let v250 : BitVec 32 := Scalar.addi v2 c10_i32_221
  let c32_i32_222 : BitVec 32 := 32#32
  let v251 : BitVec 32 := Scalar.remsi v250 c32_i32_222
  let c1_i32_227 : BitVec 32 := 1#32
  let v254 : BitVec 32 := Scalar.muli v251 c1_i32_227
  let v255 : BitVec 32 := Scalar.addi c0_i32_228 v254
  v255.toNat
def k0_dev42 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_231 : BitVec 32 := 11#32
  let v262 : BitVec 32 := Scalar.addi v2 c11_i32_231
  let c32_i32_232 : BitVec 32 := 32#32
  let v263 : BitVec 32 := Scalar.remsi v262 c32_i32_232
  let c1_i32_237 : BitVec 32 := 1#32
  let v266 : BitVec 32 := Scalar.muli v263 c1_i32_237
  let v267 : BitVec 32 := Scalar.addi c0_i32_238 v266
  v267.toNat
def k0_dev43 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_241 : BitVec 32 := 12#32
  let v274 : BitVec 32 := Scalar.addi v2 c12_i32_241
  let c32_i32_242 : BitVec 32 := 32#32
  let v275 : BitVec 32 := Scalar.remsi v274 c32_i32_242
  let c1_i32_247 : BitVec 32 := 1#32
  let v278 : BitVec 32 := Scalar.muli v275 c1_i32_247
  let v279 : BitVec 32 := Scalar.addi c0_i32_248 v278
  v279.toNat
def k0_dev44 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_251 : BitVec 32 := 13#32
  let v286 : BitVec 32 := Scalar.addi v2 c13_i32_251
  let c32_i32_252 : BitVec 32 := 32#32
  let v287 : BitVec 32 := Scalar.remsi v286 c32_i32_252
  let c1_i32_257 : BitVec 32 := 1#32
  let v290 : BitVec 32 := Scalar.muli v287 c1_i32_257
  let v291 : BitVec 32 := Scalar.addi c0_i32_258 v290
  v291.toNat
def k0_dev45 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_261 : BitVec 32 := 14#32
  let v298 : BitVec 32 := Scalar.addi v2 c14_i32_261
  let c32_i32_262 : BitVec 32 := 32#32
  let v299 : BitVec 32 := Scalar.remsi v298 c32_i32_262
  let c1_i32_267 : BitVec 32 := 1#32
  let v302 : BitVec 32 := Scalar.muli v299 c1_i32_267
  let v303 : BitVec 32 := Scalar.addi c0_i32_268 v302
  v303.toNat
def k0_dev46 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_271 : BitVec 32 := 15#32
  let v310 : BitVec 32 := Scalar.addi v2 c15_i32_271
  let c32_i32_272 : BitVec 32 := 32#32
  let v311 : BitVec 32 := Scalar.remsi v310 c32_i32_272
  let c1_i32_277 : BitVec 32 := 1#32
  let v314 : BitVec 32 := Scalar.muli v311 c1_i32_277
  let v315 : BitVec 32 := Scalar.addi c0_i32_278 v314
  v315.toNat
def k0_dev47 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_281 : BitVec 32 := 16#32
  let v322 : BitVec 32 := Scalar.addi v2 c16_i32_281
  let c32_i32_282 : BitVec 32 := 32#32
  let v323 : BitVec 32 := Scalar.remsi v322 c32_i32_282
  let c1_i32_287 : BitVec 32 := 1#32
  let v326 : BitVec 32 := Scalar.muli v323 c1_i32_287
  let v327 : BitVec 32 := Scalar.addi c0_i32_288 v326
  v327.toNat
def k0_dev48 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_291 : BitVec 32 := 17#32
  let v334 : BitVec 32 := Scalar.addi v2 c17_i32_291
  let c32_i32_292 : BitVec 32 := 32#32
  let v335 : BitVec 32 := Scalar.remsi v334 c32_i32_292
  let c1_i32_297 : BitVec 32 := 1#32
  let v338 : BitVec 32 := Scalar.muli v335 c1_i32_297
  let v339 : BitVec 32 := Scalar.addi c0_i32_298 v338
  v339.toNat
def k0_dev49 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_301 : BitVec 32 := 18#32
  let v346 : BitVec 32 := Scalar.addi v2 c18_i32_301
  let c32_i32_302 : BitVec 32 := 32#32
  let v347 : BitVec 32 := Scalar.remsi v346 c32_i32_302
  let c1_i32_307 : BitVec 32 := 1#32
  let v350 : BitVec 32 := Scalar.muli v347 c1_i32_307
  let v351 : BitVec 32 := Scalar.addi c0_i32_308 v350
  v351.toNat
def k0_dev50 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_311 : BitVec 32 := 19#32
  let v358 : BitVec 32 := Scalar.addi v2 c19_i32_311
  let c32_i32_312 : BitVec 32 := 32#32
  let v359 : BitVec 32 := Scalar.remsi v358 c32_i32_312
  let c1_i32_317 : BitVec 32 := 1#32
  let v362 : BitVec 32 := Scalar.muli v359 c1_i32_317
  let v363 : BitVec 32 := Scalar.addi c0_i32_318 v362
  v363.toNat
def k0_dev51 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_321 : BitVec 32 := 20#32
  let v370 : BitVec 32 := Scalar.addi v2 c20_i32_321
  let c32_i32_322 : BitVec 32 := 32#32
  let v371 : BitVec 32 := Scalar.remsi v370 c32_i32_322
  let c1_i32_327 : BitVec 32 := 1#32
  let v374 : BitVec 32 := Scalar.muli v371 c1_i32_327
  let v375 : BitVec 32 := Scalar.addi c0_i32_328 v374
  v375.toNat
def k0_dev52 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_331 : BitVec 32 := 21#32
  let v382 : BitVec 32 := Scalar.addi v2 c21_i32_331
  let c32_i32_332 : BitVec 32 := 32#32
  let v383 : BitVec 32 := Scalar.remsi v382 c32_i32_332
  let c1_i32_337 : BitVec 32 := 1#32
  let v386 : BitVec 32 := Scalar.muli v383 c1_i32_337
  let v387 : BitVec 32 := Scalar.addi c0_i32_338 v386
  v387.toNat
def k0_dev53 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_341 : BitVec 32 := 22#32
  let v394 : BitVec 32 := Scalar.addi v2 c22_i32_341
  let c32_i32_342 : BitVec 32 := 32#32
  let v395 : BitVec 32 := Scalar.remsi v394 c32_i32_342
  let c1_i32_347 : BitVec 32 := 1#32
  let v398 : BitVec 32 := Scalar.muli v395 c1_i32_347
  let v399 : BitVec 32 := Scalar.addi c0_i32_348 v398
  v399.toNat
def k0_dev54 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_351 : BitVec 32 := 23#32
  let v406 : BitVec 32 := Scalar.addi v2 c23_i32_351
  let c32_i32_352 : BitVec 32 := 32#32
  let v407 : BitVec 32 := Scalar.remsi v406 c32_i32_352
  let c1_i32_357 : BitVec 32 := 1#32
  let v410 : BitVec 32 := Scalar.muli v407 c1_i32_357
  let v411 : BitVec 32 := Scalar.addi c0_i32_358 v410
  v411.toNat
def k0_dev55 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_361 : BitVec 32 := 24#32
  let v418 : BitVec 32 := Scalar.addi v2 c24_i32_361
  let c32_i32_362 : BitVec 32 := 32#32
  let v419 : BitVec 32 := Scalar.remsi v418 c32_i32_362
  let c1_i32_367 : BitVec 32 := 1#32
  let v422 : BitVec 32 := Scalar.muli v419 c1_i32_367
  let v423 : BitVec 32 := Scalar.addi c0_i32_368 v422
  v423.toNat
def k0_dev56 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_371 : BitVec 32 := 25#32
  let v430 : BitVec 32 := Scalar.addi v2 c25_i32_371
  let c32_i32_372 : BitVec 32 := 32#32
  let v431 : BitVec 32 := Scalar.remsi v430 c32_i32_372
  let c1_i32_377 : BitVec 32 := 1#32
  let v434 : BitVec 32 := Scalar.muli v431 c1_i32_377
  let v435 : BitVec 32 := Scalar.addi c0_i32_378 v434
  v435.toNat
def k0_dev57 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_381 : BitVec 32 := 26#32
  let v442 : BitVec 32 := Scalar.addi v2 c26_i32_381
  let c32_i32_382 : BitVec 32 := 32#32
  let v443 : BitVec 32 := Scalar.remsi v442 c32_i32_382
  let c1_i32_387 : BitVec 32 := 1#32
  let v446 : BitVec 32 := Scalar.muli v443 c1_i32_387
  let v447 : BitVec 32 := Scalar.addi c0_i32_388 v446
  v447.toNat
def k0_dev58 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_391 : BitVec 32 := 27#32
  let v454 : BitVec 32 := Scalar.addi v2 c27_i32_391
  let c32_i32_392 : BitVec 32 := 32#32
  let v455 : BitVec 32 := Scalar.remsi v454 c32_i32_392
  let c1_i32_397 : BitVec 32 := 1#32
  let v458 : BitVec 32 := Scalar.muli v455 c1_i32_397
  let v459 : BitVec 32 := Scalar.addi c0_i32_398 v458
  v459.toNat
def k0_dev59 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_401 : BitVec 32 := 28#32
  let v466 : BitVec 32 := Scalar.addi v2 c28_i32_401
  let c32_i32_402 : BitVec 32 := 32#32
  let v467 : BitVec 32 := Scalar.remsi v466 c32_i32_402
  let c1_i32_407 : BitVec 32 := 1#32
  let v470 : BitVec 32 := Scalar.muli v467 c1_i32_407
  let v471 : BitVec 32 := Scalar.addi c0_i32_408 v470
  v471.toNat
def k0_dev60 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_411 : BitVec 32 := 29#32
  let v478 : BitVec 32 := Scalar.addi v2 c29_i32_411
  let c32_i32_412 : BitVec 32 := 32#32
  let v479 : BitVec 32 := Scalar.remsi v478 c32_i32_412
  let c1_i32_417 : BitVec 32 := 1#32
  let v482 : BitVec 32 := Scalar.muli v479 c1_i32_417
  let v483 : BitVec 32 := Scalar.addi c0_i32_418 v482
  v483.toNat
def k0_dev61 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_421 : BitVec 32 := 30#32
  let v490 : BitVec 32 := Scalar.addi v2 c30_i32_421
  let c32_i32_422 : BitVec 32 := 32#32
  let v491 : BitVec 32 := Scalar.remsi v490 c32_i32_422
  let c1_i32_427 : BitVec 32 := 1#32
  let v494 : BitVec 32 := Scalar.muli v491 c1_i32_427
  let v495 : BitVec 32 := Scalar.addi c0_i32_428 v494
  v495.toNat
def k0_dev62 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_431 : BitVec 32 := 31#32
  let v502 : BitVec 32 := Scalar.addi v2 c31_i32_431
  let c32_i32_432 : BitVec 32 := 32#32
  let v503 : BitVec 32 := Scalar.remsi v502 c32_i32_432
  let c1_i32_437 : BitVec 32 := 1#32
  let v506 : BitVec 32 := Scalar.muli v503 c1_i32_437
  let v507 : BitVec 32 := Scalar.addi c0_i32_438 v506
  v507.toNat
def k0_off5 (d0 : Dev nD) (c1_i32_462 : BitVec 32) : Fin 2 → Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v534 : BitVec 32 := Scalar.subi v2 c1_i32_462
  let c32_i32_463 : BitVec 32 := 32#32
  let v535 : BitVec 32 := Scalar.addi v534 c32_i32_463
  let c32_i32_464 : BitVec 32 := 32#32
  let v536 : BitVec 32 := Scalar.remsi v535 c32_i32_464
  let c128_i32_465 : BitVec 32 := 128#32
  let v537 : BitVec 32 := Scalar.muli v536 c128_i32_465
  ![0, v537.toNat]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Body.lean ====
/- The kernel function written as loops: the printed body of the kernel, unrolled over the 31 offsets and the 16
   chunks of the contraction, is the program `body` below, whose five loops are folds over lists. The run is proved
   of the loops, one step of each. -/
module

public import proofs.«01_k».proof.Proof.Gen.KernelIdeal.Skeleton
public import proofs.«01_k».proof.Proof.Gen.KernelIdeal.Frame

@[expose] public section

noncomputable section

namespace Cert.KernelIdeal.Exchange

open Idealize.ShloMosaic Idealize.ShloMosaic.TcCoe Idealize.SL.Sem
open Cert.KernelIdeal.Gen

variable (F : FTy → Type) [FloatOps F]

/-- A program of one core of the mesh. -/
abbrev Pr (α : Type) : Type _ := Prog (TpuEff nD τ sig (Elt F) Λ₀ .tc) α

variable {F}

/-- `f` at each element of a list, in order. -/
def each {α : Type} : List α → (α → Pr F PUnit) → Pr F PUnit
  | [], _ => pure ⟨⟩
  | a :: l, f => f a >>= fun _ => each l f

/-- The 31 offsets less one, in order. -/
def offs : List (Fin 31) :=
  [⟨0, by decide⟩, ⟨1, by decide⟩, ⟨2, by decide⟩, ⟨3, by decide⟩, ⟨4, by decide⟩, ⟨5, by decide⟩, ⟨6, by decide⟩,
   ⟨7, by decide⟩, ⟨8, by decide⟩, ⟨9, by decide⟩, ⟨10, by decide⟩, ⟨11, by decide⟩, ⟨12, by decide⟩, ⟨13, by decide⟩,
   ⟨14, by decide⟩, ⟨15, by decide⟩, ⟨16, by decide⟩, ⟨17, by decide⟩, ⟨18, by decide⟩, ⟨19, by decide⟩,
   ⟨20, by decide⟩, ⟨21, by decide⟩, ⟨22, by decide⟩, ⟨23, by decide⟩, ⟨24, by decide⟩, ⟨25, by decide⟩,
   ⟨26, by decide⟩, ⟨27, by decide⟩, ⟨28, by decide⟩, ⟨29, by decide⟩, ⟨30, by decide⟩]

/-- The chunks of the contraction after the first, in order. -/
def chunks : List (Fin 16) :=
  [⟨1, by decide⟩, ⟨2, by decide⟩, ⟨3, by decide⟩, ⟨4, by decide⟩, ⟨5, by decide⟩, ⟨6, by decide⟩, ⟨7, by decide⟩,
   ⟨8, by decide⟩, ⟨9, by decide⟩, ⟨10, by decide⟩, ⟨11, by decide⟩, ⟨12, by decide⟩, ⟨13, by decide⟩, ⟨14, by decide⟩,
   ⟨15, by decide⟩]

/-! ## Devices, semaphores and views -/

/-- The device `w` further on, as the kernel computes it. -/
def devW (c : Dev nD) (w : BitVec 32) : Nat :=
  (Scalar.addi 0#32 (Scalar.muli (Scalar.remsi (Scalar.addi (Scalar.remsi (Scalar.divsi (Dev.word c) 1#32) 32#32) w) 32#32) 1#32)).toNat

theorem devW_eq : ∀ (c : Dev nD) (i : Fin 31), devW c (BitVec.ofNat 32 (1 + i.val)) = (c.val + i.val + 1) % 32 := by
  decide +kernel

theorem devW_lt (c : Dev nD) (i : Fin 31) : devW c (BitVec.ofNat 32 (1 + i.val)) < nD := by
  rw [devW_eq]; exact Nat.mod_lt _ (by decide)

/-- The device `i + 1` further on. -/
def peer (c : Dev nD) (i : Fin 31) : Dev nD := ⟨devW c (BitVec.ofNat 32 (1 + i.val)), devW_lt c i⟩

theorem inb_off (i : Fin 31) : ∀ a, (![1 + i.val] : Fin 1 → Nat) a + S1.size a ≤ S32.size a := by
  revert i; decide

theorem inb_slot (s : Fin 4) : ∀ a, (![s.val] : Fin 1 → Nat) a + S1.size a ≤ S4.size a := by
  revert s; decide

/-- The barrier semaphore. -/
abbrev barS : Sem sig := (SemArray.scalar (sig.barrier 0 rfl) : Sems sig S_).sem
/-- The departure semaphore of the copy at offset `i + 1`. -/
def sendS (i : Fin 31) : DmaSem sig :=
  ((cc0_scratch4.slice (Rect.unit (s := S32) ![1 + i.val] S1.size (inb_off i))).squeeze S_ squeezes_S1_S_).sem
/-- The arrival semaphore of the copy at offset `i + 1`. -/
def recvS (i : Fin 31) : DmaSem sig :=
  ((cc0_scratch5.slice (Rect.unit (s := S32) ![1 + i.val] S1.size (inb_off i))).squeeze S_ squeezes_S1_S_).sem
/-- The semaphore of slot `s` of the weights' buffer. -/
def wS (s : Fin 4) : DmaSem sig :=
  ((cc0_scratch3.slice (Rect.unit (s := S4) ![s.val] S1.size (inb_slot s))).squeeze S_ squeezes_S1_S_).sem

abbrev xM : Memref sig .tc .vmem S4096x128 .f32 := Memref.whole cc0_stg0_0
abbrev wM : Memref sig .tc .hbm S4096x8192 .f32 := Memref.whole main_arg1
abbrev sxM : Memref sig .tc .smem S1 .f32 := Memref.whole cc0_stg1_0
abbrev swM : Memref sig .tc .smem S1 .f32 := Memref.whole cc0_stg2_0
abbrev oM : Memref sig .tc .vmem S128x8192 .f32 := Memref.whole cc0_stg3_0
abbrev x8M : Memref sig .tc .vmem S4096x128 .fp8e4m3 := Memref.whole cc0_scratch0
abbrev xgM : Memref sig .tc .vmem S128x4096 .fp8e4m3 := Memref.whole cc0_scratch1
abbrev wbM : Memref sig .tc .vmem S4x256x8192 .f32 := Memref.whole cc0_scratch2

/-- The rows of the cast block that go to the device at offset `i + 1`. -/
def rowV (c : Dev nD) (i : Fin 31) : Memref sig .tc .vmem S128x128 .fp8e4m3 :=
  x8M.slice (Rect.unit (s := S4096x128) (k0_off4 c (BitVec.ofNat 32 (1 + i.val))) S128x128.size (k0_off4_inb c i)) (fun _ => rfl)
/-- The columns of a gathered block that hold what device `c` sends. -/
def colV (c : Dev nD) : Memref sig .tc .vmem S128x128 .fp8e4m3 :=
  xgM.slice (Rect.unit (s := S128x4096) (k0_off3 c) S128x128.size (k0_off3_inb c)) (fun _ => rfl)
/-- The columns of device `c`'s gathered block that the device at offset `i + 1` behind it fills. -/
def inV (c : Dev nD) (i : Fin 31) : Memref sig .tc .vmem S128x128 .fp8e4m3 :=
  xgM.slice (Rect.unit (s := S128x4096) (k0_off5 c (BitVec.ofNat 32 (1 + i.val))) S128x128.size (k0_off5_inb c i)) (fun _ => rfl)
/-- The first rows of the cast block, the shape the wait for an arrival names. -/
def row0V : Memref sig .tc .vmem S128x128 .fp8e4m3 :=
  x8M.slice (Rect.unit (s := S4096x128) ![0, 0] S128x128.size inb_S4096x128_S128x128_0_0) (fun _ => rfl)

theorem inb_wb (s : Fin 4) : ∀ a, (![s.val, 0, 0] : Fin 3 → Nat) a + S1x256x8192.size a ≤ S4x256x8192.size a := by
  revert s; decide
theorem inb_w (k : Fin 16) : ∀ a, (![256 * k.val, 0] : Fin 2 → Nat) a + S256x8192.size a ≤ S4096x8192.size a := by
  revert k; decide
theorem inb_xg (k : Fin 16) : ∀ a, (![0, 256 * k.val] : Fin 2 → Nat) a + S128x256.size a ≤ S128x4096.size a := by
  revert k; decide

/-- Slot `s` of the weights' buffer. -/
abbrev wbR (s : Fin 4) : Rect S4x256x8192 := Rect.unit (s := S4x256x8192) ![s.val, 0, 0] S1x256x8192.size (inb_wb s)
def slotV (s : Fin 4) : Memref sig .tc .vmem S256x8192 .f32 :=
  (wbM.slice (wbR s) (fun _ => rfl)).squeeze S256x8192 squeezes_S1x256x8192_S256x8192
/-- Rows `256 k …` of the weights. -/
def wV (k : Fin 16) : Memref sig .tc .hbm S256x8192 .f32 :=
  wM.slice (Rect.unit (s := S4096x8192) ![256 * k.val, 0] S256x8192.size (inb_w k)) (fun _ => rfl)
/-- Columns `256 k …` of the gathered block. -/
abbrev xgR (k : Fin 16) : Rect S128x4096 := Rect.unit (s := S128x4096) ![0, 256 * k.val] S128x256.size (inb_xg k)
abbrev oR : Rect S128x8192 := Rect.unit (s := S128x8192) ![0, 0] S128x8192.size inb_S128x8192_S128x8192_0_0
abbrev xR : Rect S4096x128 := Rect.unit (s := S4096x128) ![0, 0] S4096x128.size inb_S4096x128_S4096x128_0_0

/-! ## The steps -/

/-- Tell the device at offset `i + 1` that this one has entered. -/
def sig1 (c : Dev nD) (i : Fin 31) : Pr F PUnit := semSignalWord (peer c i) barS 1#32

/-- Start the copy to the device at offset `i + 1`. -/
def send1 (c : Dev nD) (i : Fin 31) : Pr F PUnit :=
  Prog.lift (.enqueueDma (rowV c i) (.remote (Dev.tc (peer c i)) (colV c) (.dma (sendS i))) (.dma (recvS i))
    ((Memref.isWhole_whole cc0_scratch0).wordExact_slice rfl _ (k0_off4_wordsfp8e4m3 c i))
    ((Memref.isWhole_whole cc0_scratch1).wordExact_slice rfl _ (k0_off3_wordsfp8e4m3 c)) ⟨⟨rfl, Or.inl rfl⟩, trivial⟩)

/-- Wait for the arrival from the device at offset `i + 1` behind. -/
def recv1 (c : Dev nD) (i : Fin 31) : Pr F PUnit :=
  Prog.lift (.waitDma2 (recvS i) row0V (inV c i)
    ((Memref.isWhole_whole cc0_scratch0).wordExact_slice rfl _ wordsfp8e4m3_S4096x128_S128x128_0_0)
    ((Memref.isWhole_whole cc0_scratch1).wordExact_slice rfl _ (k0_off5_wordsfp8e4m3 c i)))

/-- Wait for the departure of the copy at offset `i + 1`. -/
def done1 (c : Dev nD) (i : Fin 31) : Pr F PUnit :=
  Prog.lift (.waitDma2 (sendS i) (colV c) (rowV c i)
    ((Memref.isWhole_whole cc0_scratch1).wordExact_slice rfl _ (k0_off3_wordsfp8e4m3 c))
    ((Memref.isWhole_whole cc0_scratch0).wordExact_slice rfl _ (k0_off4_wordsfp8e4m3 c i)))

/-- The slot chunk `k` goes through. -/
def slotOf (k : Fin 16) : Fin 4 := ⟨k.val % 4, Nat.mod_lt _ (by decide)⟩

/-- Start the fetch of chunk `k` of the weights. -/
def fetch1 (k : Fin 16) : Pr F PUnit :=
  Prog.lift (.enqueueDma (wV k) (.here (slotV (slotOf k))) (.dma (wS (slotOf k))) (View.wordExact_bits rfl)
    ((View.wordExact_bits rfl).reshape _ _) ⟨Or.inl rfl, trivial⟩)

/-- Start the fetch of the chunk four further on, if there is one. -/
def refetch (k : Fin 16) : Pr F PUnit :=
  if h : k.val + 4 < 16 then fetch1 ⟨k.val + 4, h⟩ else pure ⟨⟩

/-- Wait for chunk `k` of the weights and read both operands of its product. -/
def operands (k : Fin 16) {α : Type} (f : Vec F S128x256 .fp8e4m3 → Vec F S1x256x8192 .f32 → Pr F α) : Pr F α :=
  Prog.op (.waitDma2 (wS (slotOf k)) (wV k) (slotV (slotOf k)) (View.wordExact_bits rfl) ((View.wordExact_bits rfl).reshape _ _)) fun _ =>
  Prog.op (.load xgM (xgR k).toLoadRect (View.loadsAt_vmem h_S128x256)) fun a =>
  Prog.op (.load wbM (wbR (slotOf k)).toLoadRect (View.loadsAt_vmem h_S1x256x8192)) fun b => f a b

/-- The result's buffer read. -/
def loadO : Pr F (Vec F S128x8192 .f32) := Prog.lift (.load oM oR.toLoadRect (View.loadsAt_vmem h_S128x8192))
/-- The result's buffer written. -/
def storeO (v : FVec F S128x8192 .f32) : Pr F PUnit :=
  Prog.lift (.store oM oR v Finset.univ (View.stores_vmem_bits_univ h_S128x8192 rfl) (.inl rfl))

/-- The first chunk: its product starts the result. -/
def chunk0 : Pr F PUnit :=
  operands ⟨0, by decide⟩ fun a b => loadO >>= fun _ => storeO (k0_pay3 a b) >>= fun _ => refetch ⟨0, by decide⟩

/-- A later chunk: its product is added to the result. -/
def chunk1 (k : Fin 16) : Pr F PUnit :=
  operands k fun a b => loadO >>= fun o => loadO >>= fun _ => storeO (k0_pay4 a b o) >>= fun _ => refetch k

/-- The block cast, and the device's own rows put in their place. -/
def own (c : Dev nD) : Pr F PUnit := do
  let x : Vec F S4096x128 .f32 ← Prog.lift (.load xM xR.toLoadRect (View.loadsAt_vmem h_S4096x128))
  let _x8 : Vec F S4096x128 .fp8e4m3 ← Prog.lift (.load x8M xR.toLoadRect (View.loadsAt_vmem h_S4096x128))
  Prog.lift (.store x8M xR (k0_pay1 x) Finset.univ (View.stores_vmem h_S4096x128
    ((Memref.isWhole_whole cc0_scratch0).storeExact_slice rfl _ packedfp8e4m3_S4096x128_S4096x128_0_0) (fun _ => rfl)) (.inl rfl))
  let r : Vec F S128x128 .fp8e4m3 ← Prog.lift (.load x8M (Rect.unit (s := S4096x128) (k0_off1 c) S128x128.size (k0_off1_inb c)).toLoadRect (View.loadsAt_vmem h_S128x128))
  let _g : Vec F S128x128 .fp8e4m3 ← Prog.lift (.load xgM (Rect.unit (s := S128x4096) (k0_off2 c) S128x128.size (k0_off2_inb c)).toLoadRect (View.loadsAt_vmem h_S128x128))
  Prog.lift (.store xgM (Rect.unit (s := S128x4096) (k0_off2 c) S128x128.size (k0_off2_inb c)) (k0_pay2 r) Finset.univ (View.stores_vmem h_S128x128
    ((Memref.isWhole_whole cc0_scratch1).storeExact_slice rfl _ (k0_off2_packedfp8e4m3 c)) (fun _ => rfl)) (.inl rfl))

/-- Scale and clip the result. -/
def finish : Pr F PUnit := do
  let sx : Elt F .f32 ← smemLoad sxM (Rect.unit (s := S1) ![0] S1.size inb_S1_S1_0) numel1_S1 rfl
  let sw : Elt F .f32 ← smemLoad swM (Rect.unit (s := S1) ![0] S1.size inb_S1_S1_0) numel1_S1 rfl
  let o ← loadO
  let _ ← loadO
  storeO (k0_pay25 sx sw o)

/-- The kernel function as loops. -/
def body : Pr F PUnit := do
  let c : Dev nD ← Prog.lift .deviceId
  each offs (sig1 c)
  semWaitWord barS 31#32
  own c
  each offs (send1 c)
  fetch1 ⟨0, by decide⟩
  fetch1 ⟨1, by decide⟩
  fetch1 ⟨2, by decide⟩
  fetch1 ⟨3, by decide⟩
  each offs (recv1 c)
  chunk0
  each chunks chunk1
  finish
  each offs (done1 c)

/-- The printed body is these loops. -/
theorem bodyAt_eq (t : Fin cfg0.N) : bodyAt0 (F := F) t = body (F := F) := by
  chain_rfl

end Cert.KernelIdeal.Exchange

end
-- ==== Proof.Mesh.lean ====
/- The mesh and the geometry of the kernel: which device lies at which offset, how a family over all devices splits
   into one device's own part and its 31 peers' parts, how the semaphores are numbered, and which elements of a
   buffer each view covers. -/
module

public import proofs.«01_k».proof.Proof.Body
public import Idealize.ShloMosaic.Lib.Pipeline.Launch
public import Idealize.ShloMosaic.Lib.Pipeline.Kit
public import Idealize.ShloMosaic.Lib.Tactic

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

/-! ## Devices -/

theorem peer_val (c : Dev nD) (i : Fin 31) : (peer c i).val = (c.val + i.val + 1) % 32 := devW_eq c i

/-- The device `i + 1` behind. -/
def back (c : Dev nD) (i : Fin 31) : Dev nD := peer c i.rev

theorem back_val (c : Dev nD) (i : Fin 31) : (back c i).val = (c.val + 31 - i.val) % 32 := by
  unfold back
  rw [peer_val, Fin.val_rev]
  have := i.isLt
  congr 1; omega

theorem peer_back (c : Dev nD) (i : Fin 31) : peer (back c i) i = c := by
  apply Fin.ext
  rw [peer_val, back_val]
  have := i.isLt; have h : c.val < 32 := c.isLt
  omega

theorem back_peer (c : Dev nD) (i : Fin 31) : back (peer c i) i = c := by
  apply Fin.ext
  rw [back_val, peer_val]
  have := i.isLt; have h : c.val < 32 := c.isLt
  omega

theorem back_rev (c : Dev nD) (i : Fin 31) : back c i.rev = peer c i := by
  unfold back; rw [Fin.rev_rev]

theorem peer_rev_peer (c : Dev nD) (i : Fin 31) : peer (peer c i) i.rev = c := back_peer c i

theorem peer_injective (c : Dev nD) : Function.Injective (peer c) := by
  intro i j h
  have h' := congrArg Fin.val h
  rw [peer_val, peer_val] at h'
  have := i.isLt; have := j.isLt; have h : c.val < 32 := c.isLt
  apply Fin.ext; omega

theorem back_injective (c : Dev nD) : Function.Injective (back c) := fun _ _ h => Fin.rev_injective (peer_injective c h)

theorem peer_ne (c : Dev nD) (i : Fin 31) : peer c i ≠ c := by
  intro h
  have h' := congrArg Fin.val h
  rw [peer_val] at h'
  have := i.isLt; have h : c.val < 32 := c.isLt
  omega

theorem exists_peer (c d : Dev nD) (h : d ≠ c) : ∃ i, peer c i = d := by
  have h1 : c.val < 32 := c.isLt
  have h2 : d.val < 32 := d.isLt
  have h3 : d.val ≠ c.val := fun e => h (Fin.ext e)
  refine ⟨⟨(d.val + 31 - c.val) % 32, by omega⟩, Fin.ext ?_⟩
  rw [peer_val]
  show (c.val + (d.val + 31 - c.val) % 32 + 1) % 32 = d.val
  omega

/-- The devices but one are that one's peers. -/
theorem erase_eq_map (c : Dev nD) : (Finset.univ : Finset (Dev nD)).erase c = Finset.univ.map ⟨peer c, peer_injective c⟩ := by
  ext d
  simp only [Finset.mem_erase, Finset.mem_univ, and_true, Finset.mem_map, true_and, Function.Embedding.coeFn_mk]
  exact ⟨exists_peer c d, fun ⟨i, hi⟩ => hi ▸ peer_ne c i⟩

/-- A family over the devices is one device's part and its peers' parts. -/
theorem bigSep_peers {M : Type} [URA M] (c : Dev nD) (Φ : Dev nD → sProp M) :
    bigSep Finset.univ Φ = iprop(Φ c ∗ bigSep Finset.univ fun i => Φ (peer c i)) := by
  rw [bigSep_univ_at Φ c, erase_eq_map, bigSep_map]; rfl

/-- Reversal of the offsets. -/
def revE : Fin 31 ≃ Fin 31 := ⟨Fin.rev, Fin.rev, Fin.rev_rev, Fin.rev_rev⟩

theorem bigSep_backs {M : Type} [URA M] (c : Dev nD) (Φ : Dev nD → sProp M) :
    bigSep Finset.univ Φ = iprop(Φ c ∗ bigSep Finset.univ fun i => Φ (back c i)) := by
  rw [bigSep_peers c, bigSep_univ_equiv revE]; rfl

/-- Device and offset, seen from the device at that offset. -/
def turn : Dev nD × Fin 31 ≃ Dev nD × Fin 31 where
  toFun p := (peer p.1 p.2, p.2)
  invFun p := (back p.1 p.2, p.2)
  left_inv p := by simp only [back_peer]
  right_inv p := by simp only [peer_back]

/-- A family over devices and offsets, read from the other end of each offset. -/
theorem bigSep_turn {M : Type} [URA M] (Φ : Dev nD → Fin 31 → sProp M) :
    (bigSep Finset.univ fun c : Dev nD => bigSep Finset.univ fun i => Φ c i)
      = bigSep Finset.univ fun c : Dev nD => bigSep Finset.univ fun i => Φ (peer c i) i := by
  rw [← bigSep_univ_prod (fun p : Dev nD × Fin 31 => Φ p.1 p.2), ← bigSep_univ_prod (fun p : Dev nD × Fin 31 => Φ (peer p.1 p.2) p.2),
    bigSep_univ_equiv turn]
  rfl

theorem offs_nodup : offs.Nodup := by decide
theorem mem_offs (i : Fin 31) : i ∈ offs := by revert i; decide

/-- A family over the offsets as the chain the loops run through. -/
theorem bigSep_offs {M : Type} [URA M] (Φ : Fin 31 → sProp M) : bigSep Finset.univ Φ = bigSepL offs Φ :=
  bigSep_univ_eq_bigSepL offs (by decide) (by decide) Φ

/-! ## The semaphores -/

theorem wS_val (s : Fin 4) : (wS s).val = 4 + s.val := by revert s; decide
theorem sendS_val (i : Fin 31) : (sendS i).val = 9 + i.val := by revert i; decide
theorem recvS_val (i : Fin 31) : (recvS i).val = 41 + i.val := by revert i; decide

theorem sendS_injective : Function.Injective sendS := fun i j h => by
  have := congrArg Fin.val h; rw [sendS_val, sendS_val] at this; apply Fin.ext; omega
theorem recvS_injective : Function.Injective recvS := fun i j h => by
  have := congrArg Fin.val h; rw [recvS_val, recvS_val] at this; apply Fin.ext; omega
theorem sendS_ne_recvS (i j : Fin 31) : sendS i ≠ recvS j := fun h => by
  have := congrArg Fin.val h; rw [sendS_val, recvS_val] at this; have := i.isLt; omega

/-! ## The views -/

/-- The rows of the cast block that go to device `d`. -/
def rowsD (d : Dev nD) : Finset S4096x128.Idx := Finset.univ.filter fun j => (j 0).val / 128 = d.val
/-- The columns of a gathered block that come from device `d`. -/
def colsD (d : Dev nD) : Finset S128x4096.Idx := Finset.univ.filter fun j => (j 1).val / 128 = d.val
/-- The rows of the weights in chunk `k`. -/
def wRows (k : Fin 16) : Finset S4096x8192.Idx := Finset.univ.filter fun j => (j 0).val / 256 = k.val
/-- Slot `s` of the weights' buffer. -/
def slots (s : Fin 4) : Finset S4x256x8192.Idx := Finset.univ.filter fun j => (j 0).val = s.val

theorem rowsD_unit (d : Dev nD) (off : Fin 2 → Nat) (h : off = ![128 * d.val, 0]) (inb) :
    (Rect.unit (s := S4096x128) off S128x128.size inb).set = rowsD d := by
  subst h
  ext j
  rw [Rect.mem_set_unit, rowsD, Finset.mem_filter]
  have h1 := (j 1).isLt
  change (j 1).val < 128 at h1
  constructor
  · intro H
    have := H 0
    change 128 * d.val ≤ (j 0).val ∧ (j 0).val < 128 * d.val + 128 at this
    exact ⟨Finset.mem_univ _, by omega⟩
  · rintro ⟨-, H⟩ a
    match a with
    | ⟨0, _⟩ => change 128 * d.val ≤ (j 0).val ∧ (j 0).val < 128 * d.val + 128; omega
    | ⟨1, _⟩ => change 0 ≤ (j 1).val ∧ (j 1).val < 0 + 128; omega

theorem colsD_unit (d : Dev nD) (off : Fin 2 → Nat) (h : off = ![0, 128 * d.val]) (inb) :
    (Rect.unit (s := S128x4096) off S128x128.size inb).set = colsD d := by
  subst h
  ext j
  rw [Rect.mem_set_unit, colsD, Finset.mem_filter]
  have h1 := (j 0).isLt
  change (j 0).val < 128 at h1
  constructor
  · intro H
    have := H 1
    change 128 * d.val ≤ (j 1).val ∧ (j 1).val < 128 * d.val + 128 at this
    exact ⟨Finset.mem_univ _, by omega⟩
  · rintro ⟨-, H⟩ a
    match a with
    | ⟨0, _⟩ => change 0 ≤ (j 0).val ∧ (j 0).val < 0 + 128; omega
    | ⟨1, _⟩ => change 128 * d.val ≤ (j 1).val ∧ (j 1).val < 128 * d.val + 128; omega

theorem off4_peer (c : Dev nD) (i : Fin 31) : k0_off4 c (BitVec.ofNat 32 (1 + i.val)) = ![128 * (peer c i).val, 0] := by
  rw [k0_off4_eq, peer_val]

theorem off5_back (c : Dev nD) (i : Fin 31) : k0_off5 c (BitVec.ofNat 32 (1 + i.val)) = ![0, 128 * (back c i).val] := by
  rw [k0_off5_eq, back_val]

theorem rowV_set (c : Dev nD) (i : Fin 31) : (rowV c i).view.set = rowsD (peer c i) :=
  (View.set_slice_whole cc0_scratch0 _).trans (rowsD_unit _ _ (off4_peer c i) _)

theorem colV_set (c : Dev nD) : (colV c).view.set = colsD c :=
  (View.set_slice_whole cc0_scratch1 _).trans (colsD_unit _ _ (k0_off3_eq c) _)

theorem inV_set (c : Dev nD) (i : Fin 31) : (inV c i).view.set = colsD (back c i) :=
  (View.set_slice_whole cc0_scratch1 _).trans (colsD_unit _ _ (off5_back c i) _)

theorem wV_set (k : Fin 16) : (wV k).view.set = wRows k := by
  refine (View.set_slice_whole main_arg1 _).trans ?_
  ext j
  rw [Rect.mem_set_unit, wRows, Finset.mem_filter]
  have h1 := (j 1).isLt
  change (j 1).val < 8192 at h1
  constructor
  · intro H
    have := H 0
    change 256 * k.val ≤ (j 0).val ∧ (j 0).val < 256 * k.val + 256 at this
    exact ⟨Finset.mem_univ _, by omega⟩
  · rintro ⟨-, H⟩ a
    match a with
    | ⟨0, _⟩ => change 256 * k.val ≤ (j 0).val ∧ (j 0).val < 256 * k.val + 256; omega
    | ⟨1, _⟩ => change 0 ≤ (j 1).val ∧ (j 1).val < 0 + 8192; omega

theorem wbR_set (s : Fin 4) : (wbR s).set = slots s := by
  ext j
  rw [Rect.mem_set_unit, slots, Finset.mem_filter]
  have h1 := (j 1).isLt
  have h2 := (j 2).isLt
  change (j 1).val < 256 at h1
  change (j 2).val < 8192 at h2
  constructor
  · intro H
    have := H 0
    change s.val ≤ (j 0).val ∧ (j 0).val < s.val + 1 at this
    exact ⟨Finset.mem_univ _, by omega⟩
  · rintro ⟨-, H⟩ a
    match a with
    | ⟨0, _⟩ => change s.val ≤ (j 0).val ∧ (j 0).val < s.val + 1; omega
    | ⟨1, _⟩ => change 0 ≤ (j 1).val ∧ (j 1).val < 0 + 256; omega
    | ⟨2, _⟩ => change 0 ≤ (j 2).val ∧ (j 2).val < 0 + 8192; omega

theorem slotV_set (s : Fin 4) : (slotV s).view.set = slots s :=
  (View.set_reshape _ _).trans ((View.set_slice_whole cc0_scratch2 _).trans (wbR_set s))

/-! ## Points-tos by fibres -/

section Fibres

variable {nD' : Nat} {τ' : Topo} {sg : RefSig} {Ix : Type} [DecidableEq Ix] {Val : EltTy → Type} {Name : Type} [DecidableEq Name]
  {U : Type} [URA U] {Lvl : Type}

/-- A whole buffer is its parts over the values of a function on its indices. -/
theorem pointsTo_fibres {ℓ : Loc nD' τ' sg} {T : Type} [Fintype T] [DecidableEq T] (q : PosShare TreeShare) (f : Buf Val ℓ)
    (S : T → Finset (Idx ℓ)) (hdis : ∀ t t', t ≠ t' → Disjoint (S t) (S t')) (hcov : ∀ i, ∃ t, i ∈ S t) :
    (ℓ ↦{q} f : sProp (MT nD' τ' sg Ix Val Name U Lvl)) = bigSep Finset.univ fun t => ℓ ↦[S t]{q} f := by
  rw [← pointsTo_biUnion Finset.univ S (fun t _ t' _ h => hdis t t' h)]
  congr 1
  ext i
  simp only [Finset.mem_univ, Finset.mem_biUnion, true_and, true_iff]
  exact hcov i

end Fibres

theorem rowsD_disj (d d' : Dev nD) (h : d ≠ d') : Disjoint (rowsD d) (rowsD d') :=
  Finset.disjoint_left.2 fun j h1 h2 => h (Fin.ext ((Finset.mem_filter.1 h1).2.symm.trans (Finset.mem_filter.1 h2).2))
theorem colsD_disj (d d' : Dev nD) (h : d ≠ d') : Disjoint (colsD d) (colsD d') :=
  Finset.disjoint_left.2 fun j h1 h2 => h (Fin.ext ((Finset.mem_filter.1 h1).2.symm.trans (Finset.mem_filter.1 h2).2))
theorem wRows_disj (k k' : Fin 16) (h : k ≠ k') : Disjoint (wRows k) (wRows k') :=
  Finset.disjoint_left.2 fun j h1 h2 => h (Fin.ext ((Finset.mem_filter.1 h1).2.symm.trans (Finset.mem_filter.1 h2).2))
theorem slots_disj (s s' : Fin 4) (h : s ≠ s') : Disjoint (slots s) (slots s') :=
  Finset.disjoint_left.2 fun j h1 h2 => h (Fin.ext ((Finset.mem_filter.1 h1).2.symm.trans (Finset.mem_filter.1 h2).2))

theorem rowsD_cov (j : S4096x128.Idx) : ∃ d : Dev nD, j ∈ rowsD d := by
  have h := (j 0).isLt
  change (j 0).val < 4096 at h
  exact ⟨⟨(j 0).val / 128, show _ < 32 by omega⟩, Finset.mem_filter.2 ⟨Finset.mem_univ _, rfl⟩⟩
theorem colsD_cov (j : S128x4096.Idx) : ∃ d : Dev nD, j ∈ colsD d := by
  have h := (j 1).isLt
  change (j 1).val < 4096 at h
  exact ⟨⟨(j 1).val / 128, show _ < 32 by omega⟩, Finset.mem_filter.2 ⟨Finset.mem_univ _, rfl⟩⟩
theorem wRows_cov (j : S4096x8192.Idx) : ∃ k : Fin 16, j ∈ wRows k := by
  have h := (j 0).isLt
  change (j 0).val < 4096 at h
  exact ⟨⟨(j 0).val / 256, by omega⟩, Finset.mem_filter.2 ⟨Finset.mem_univ _, rfl⟩⟩
theorem slots_cov (j : S4x256x8192.Idx) : ∃ s : Fin 4, j ∈ slots s :=
  ⟨j 0, Finset.mem_filter.2 ⟨Finset.mem_univ _, rfl⟩⟩

end Cert.KernelIdeal.Exchange

end
-- ==== Proof.Data.lean ====
/- What the buffers hold: the cast block of each device, the block a device gathers from the 32 cast blocks, the
   operands of the 16 products and the running sum of the products, with the lemmas that say what a copy or a store
   leaves and what a load reads in these terms. -/
module

public import proofs.«01_k».proof.Proof.Mesh
public import Idealize.ShloMosaic.Lib.Pipeline.ValueKit.Geometry

@[expose] public section

noncomputable section

namespace Cert.KernelIdeal.Exchange

open Idealize.ShloMosaic Idealize.ShloMosaic.TcCoe
open Idealize.SL Idealize.SL.RA Idealize.SL.BI
open Cert.KernelIdeal.Gen

variable {F : FTy → Type} [FloatOps F]

/-- An index of the block a device holds of `x`. -/
def xIdx (r : ℕ) (q : ℕ) (hr : r < 4096) (hq : q < 128) : S4096x128.Idx
  | ⟨0, _⟩ => ⟨r, hr⟩
  | ⟨1, _⟩ => ⟨q, hq⟩

/-- The device whose block column `j` of a gathered block comes from. -/
def srcD (j : S128x4096.Idx) : Dev nD :=
  ⟨(j 1).val / 128, by have h := (j 1).isLt; change (j 1).val < 4096 at h; show _ < 32; omega⟩

/-- Where in that device's block the element lies that device `p` gathers at `j`. -/
def srcI (p : Dev nD) (j : S128x4096.Idx) : S4096x128.Idx :=
  xIdx (128 * p.val + (j 0).val) ((j 1).val % 128)
    (by have h := (j 0).isLt; have hp : p.val < 32 := p.isLt; change (j 0).val < 128 at h; omega) (Nat.mod_lt _ (by decide))

section

variable (xs : Dev nD → Vec F S4096x128 .f32)

/-- The cast block of device `c`. -/
def X8 (c : Dev nD) : Vec F S4096x128 .fp8e4m3 := k0_pay1 (xs c)

/-- The block device `p` gathers: its 128 rows of every device's cast block, side by side. -/
def G (p : Dev nD) : Vec F S128x4096 .fp8e4m3 := fun j => X8 xs (srcD j) (srcI p j)

/-- Rows `128 p …` of device `c`'s cast block, written to columns `128 c …`, are what device `p` gathers there. -/
theorem written_eq (c p : Dev nD) (off off' : Fin 2 → Nat) (h : off = ![128 * p.val, 0]) (h' : off' = ![0, 128 * c.val])
    (inb : ∀ a, off a + S128x128.size a ≤ S4096x128.size a) (inb' : ∀ a, off' a + S128x128.size a ≤ S128x4096.size a)
    (fd : Vec F S128x4096 .fp8e4m3) (j : S128x4096.Idx) (hj : j ∈ colsD c) :
    ((View.whole cc0_scratch1).slice (Rect.unit (s := S128x4096) off' S128x128.size inb')).write (Elt F) fd
      (((View.whole cc0_scratch0).slice (Rect.unit (s := S4096x128) off S128x128.size inb)).read (Elt F) (X8 xs c)) Finset.univ j = G xs p j := by
  have hm : j ∈ ((View.whole cc0_scratch1).slice (Rect.unit (s := S128x4096) off' S128x128.size inb')).set := by
    rw [View.set_slice_whole, colsD_unit c off' h' inb']; exact hj
  obtain ⟨y, -, rfl⟩ := Finset.mem_map.1 hm
  rw [View.write_emb_of_mem _ _ (Finset.mem_univ y)]
  have e0 := ValueKit.view_emb_slice_whole_unit_val cc0_scratch1 off' S128x128.size inb' y 0
  have e1 := ValueKit.view_emb_slice_whole_unit_val cc0_scratch1 off' S128x128.size inb' y 1
  have f0 := ValueKit.view_emb_slice_whole_unit_val cc0_scratch0 off S128x128.size inb y 0
  have f1 := ValueKit.view_emb_slice_whole_unit_val cc0_scratch0 off S128x128.size inb y 1
  have y0 : (y 0).val < 128 := (y 0).isLt
  have y1 : (y 1).val < 128 := (y 1).isLt
  subst h h'
  change _ = 0 + (y 0).val at e0
  change _ = 128 * c.val + (y 1).val at e1
  change _ = 128 * p.val + (y 0).val at f0
  change _ = 0 + (y 1).val at f1
  show X8 xs c _ = X8 xs _ _
  have hd : srcD (((View.whole cc0_scratch1).slice (Rect.unit (s := S128x4096) ![0, 128 * c.val] S128x128.size inb')).emb y) = c := by
    apply Fin.ext
    show (_ : ℕ) / 128 = c.val
    rw [e1]; omega
  rw [hd]
  congr 1
  funext a
  apply Fin.ext
  match a with
  | ⟨0, _⟩ =>
    refine f0.trans ?_
    show _ = 128 * p.val + (_ : ℕ)
    rw [e0]; omega
  | ⟨1, _⟩ =>
    refine f1.trans ?_
    show _ = (_ : ℕ) % 128
    rw [e1]; omega

/-- What the copy at offset `i + 1` lands with its target. -/
theorem landed (c : Dev nD) (i : Fin 31) (fd : Vec F S128x4096 .fp8e4m3) (j : S128x4096.Idx) (hj : j ∈ colsD c) :
    (colV c).view.write (Elt F) fd ((rowV c i).view.read (Elt F) (X8 xs c)) Finset.univ j = G xs (peer c i) j :=
  written_eq xs c (peer c i) _ _ (off4_peer c i) (k0_off3_eq c) _ _ fd j hj

/-- What the device's own rows leave in its own columns. -/
theorem owned (c : Dev nD) (fd : Vec F S128x4096 .fp8e4m3) (j : S128x4096.Idx) (hj : j ∈ colsD c) :
    (xgM.access (Rect.unit (s := S128x4096) (k0_off2 c) S128x128.size (k0_off2_inb c))).write (Elt F) fd
      (k0_pay2 (x8M.view.readAt (Elt F) (Rect.unit (s := S4096x128) (k0_off1 c) S128x128.size (k0_off1_inb c)).toLoadRect (X8 xs c))) Finset.univ j
      = G xs c j := by
  have : k0_pay2 (F := F) = id := by
    funext v
    show shapeCast _ v _ = v
    exact shapeCast_self v _
  rw [this]
  exact written_eq xs c c _ _ (k0_off1_eq c) (k0_off2_eq c) _ _ fd j hj

/-! ## The products -/

/-- The left operand of chunk `k` of device `p`. -/
def opA (p : Dev nD) (k : Fin 16) : Vec F S128x256 .fp8e4m3 := xgM.view.readAt (Elt F) (xgR k).toLoadRect (G xs p)

end

/-- The right operand of chunk `k`, out of the weights. -/
def opB (w : Vec F S4096x8192 .f32) (k : Fin 16) : Vec F S1x256x8192 .f32 :=
  shapeCast S1x256x8192 ((wV k).view.read (Elt F) w) squeezes_S1x256x8192_S256x8192.numel_eq.symm

/-- A slot is read by the loads as by its view, under a leading unit axis. -/
theorem slot_readAt (s : Fin 4) (g : Vec F S4x256x8192 .f32) :
    wbM.view.readAt (Elt F) (wbR s).toLoadRect g
      = shapeCast S1x256x8192 ((slotV s).view.read (Elt F) g) squeezes_S1x256x8192_S256x8192.numel_eq.symm := by
  funext y
  show g ((wbR s).emb y) = g ((wbR s).emb (Shape.reshapeEquiv squeezes_S1x256x8192_S256x8192.numel_eq
    (Shape.reshapeEquiv squeezes_S1x256x8192_S256x8192.numel_eq.symm y)))
  congr 2
  exact ((Shape.reshapeEquiv squeezes_S1x256x8192_S256x8192.numel_eq.symm).symm_apply_apply y).symm

/-- A slot holding a chunk of the weights reads as the chunk's operand. -/
theorem slot_read (s : Fin 4) (k : Fin 16) (w : Vec F S4096x8192 .f32) (fd : Vec F S4x256x8192 .f32) :
    wbM.view.readAt (Elt F) (wbR s).toLoadRect ((slotV s).view.write (Elt F) fd ((wV k).view.read (Elt F) w) Finset.univ) = opB w k :=
  (slot_readAt s _).trans (congrArg (fun u => shapeCast S1x256x8192 u squeezes_S1x256x8192_S256x8192.numel_eq.symm)
    (View.read_write_univ (v := (slotV s).view) (Val := Elt F) fd ((wV k).view.read (Elt F) w)))

/-- Chunk number `n`. -/
def ck (n : ℕ) : Fin 16 := ⟨n % 16, Nat.mod_lt _ (by decide)⟩

theorem ck_val (k : Fin 16) : ck k.val = k := Fin.ext (Nat.mod_eq_of_lt k.isLt)

/-- The sum of the products of chunks `0 … n`. -/
def acc (xs : Dev nD → Vec F S4096x128 .f32) (w : Vec F S4096x8192 .f32) (p : Dev nD) : ℕ → Vec F S128x8192 .f32
  | 0 => k0_pay3 (opA xs p (ck 0)) (opB w (ck 0))
  | n + 1 => k0_pay4 (opA xs p (ck (n + 1))) (opB w (ck (n + 1))) (acc xs w p n)

/-- The result of device `p`. -/
def result (xs : Dev nD → Vec F S4096x128 .f32) (w : Vec F S4096x8192 .f32) (sx sw : Elt F .f32) (p : Dev nD) : Vec F S128x8192 .f32 :=
  k0_pay25 sx sw (acc xs w p 15)

end Cert.KernelIdeal.Exchange

end
-- ==== Proof.Protocol.lean ====
/- The protocol of the exchange. Each device has 63 cells of one round each: its barrier cell, which each of its 31
   peers raises by one, handing over the columns of its own gathered block that this device fills; a departure cell
   for each of the 31 copies it sends, which gives back the rows sent; and an arrival cell for each of the 31 copies
   it receives, which gives the columns filled. -/
module

public import proofs.«01_k».proof.Proof.Data

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra -/

/-- The rounds of the exchange, its duties named by offsets. -/
abbrev UB : Type := URounds (GSem nD τ sig) (Fin 31)
/-- The pipeline's rounds, the exchange's, and the counters of the weights' fetches. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the exchange's rounds lie. -/
def ER : Emb UB (MT nD τ sig Unit (Elt F) ℕ UU ℕ) := (Emb.inl : Emb UB (UB × Counters)).trans embR
instance ER_lands : (ER (F := F)).LandsIn (upEmb : UEmb _ 𝕄) := by unfold ER; infer_instance
/-- Where the counters lie. -/
def EC : UEmb Counters (MT nD τ sig Unit (Elt F) ℕ UU ℕ) :=
  ((UEmb.inr : UEmb Counters (UB × Counters)).trans (UEmb.inr : UEmb (UB × Counters) UU)).trans uEmb
instance EC_lands : (EC (F := F)).LandsIn (upEmb : UEmb _ 𝕄) := by unfold EC; infer_instance

abbrev 𝒱₀ : Variants := Variants.none

/-! ## The cells -/

/-- A device's cells: the barrier, the 31 departures, the 31 arrivals. -/
abbrev CI : Type := Unit ⊕ (Fin 31 ⊕ Fin 31)

/-- The semaphore of a cell. -/
def csem : CI → SemLoc sig
  | .inl () => .reg barS
  | .inr (.inl i) => .dma (sendS i)
  | .inr (.inr i) => .dma (recvS i)

/-- Which cell the semaphore of a number is of. -/
def kindNo (q : ℕ) : Option CI :=
  if h : 9 ≤ q ∧ q < 40 then some (.inr (.inl ⟨q - 9, by omega⟩))
  else if h : 41 ≤ q ∧ q < 72 then some (.inr (.inr ⟨q - 41, by omega⟩)) else none

/-- Which cell a semaphore is of. -/
def kindOf : SemLoc sig → Option CI
  | .reg _ => some (.inl ())
  | .dma q => kindNo q.val

theorem kind_send (i : Fin 31) : kindOf (.dma (sendS i)) = some (.inr (.inl i)) := by
  have hi := i.isLt
  show kindNo (sendS i).val = _
  rw [sendS_val]
  unfold kindNo
  rw [dif_pos (by omega)]
  congr 3
  exact Fin.ext (by show 9 + i.val - 9 = i.val; omega)

theorem kind_recv (i : Fin 31) : kindOf (.dma (recvS i)) = some (.inr (.inr i)) := by
  have hi := i.isLt
  show kindNo (recvS i).val = _
  rw [recvS_val]
  unfold kindNo
  rw [dif_neg (by omega), dif_pos (by omega)]
  congr 3
  exact Fin.ext (by show 41 + i.val - 41 = i.val; omega)

theorem kind_csem : ∀ k : CI, kindOf (csem k) = some k
  | .inl () => rfl
  | .inr (.inl i) => kind_send i
  | .inr (.inr i) => kind_recv i

abbrev barCell (c : Dev nD) : GSem nD τ sig := ((c : Thread nD τ), .reg barS)
abbrev sendCell (c : Dev nD) (i : Fin 31) : GSem nD τ sig := ((c : Thread nD τ), .dma (sendS i))
abbrev recvCell (c : Dev nD) (i : Fin 31) : GSem nD τ sig := ((c : Thread nD τ), .dma (recvS i))
abbrev kcell (p : Dev nD × CI) : GSem nD τ sig := ((p.1 : Thread nD τ), csem p.2)

theorem kcell_injective : Function.Injective (kcell : Dev nD × CI → GSem nD τ sig) := by
  rintro ⟨c, k⟩ ⟨c', k'⟩ h
  have h1 : c = c' := by have := congrArg (fun g : GSem nD τ sig => g.1.1) h; exact this
  have h2 : csem k = csem k' := congrArg Prod.snd h
  have h3 := congrArg kindOf h2
  rw [kind_csem, kind_csem] at h3
  rw [h1, Option.some.inj h3]

/-- The credit of one copy. -/
abbrev N : ℕ := (cc0_scratch1 : Ref sig .tc).dmaCredit S128x128 .fp8e4m3
theorem N_pos : 0 < N := View.dmaCredit_pos (colV 0).view (by decide)
theorem N_row (c : Dev nD) (i : Fin 31) : (rowV c i).view.dmaCredit = N := by rfl

/-! ## Points-tos -/

/-- Elements of device `c`'s gathered block. -/
def xgPts (c : Dev nD) (S : Finset S128x4096.Idx) (f : Vec F S128x4096 .fp8e4m3) : sProp 𝕄 :=
  ((c : Thread nD τ).loc cc0_scratch1) ↦[S]{fullShare} f
/-- Elements of device `c`'s cast block. -/
def x8Pts (c : Dev nD) (S : Finset S4096x128.Idx) (f : Vec F S4096x128 .fp8e4m3) : sProp 𝕄 :=
  ((c : Thread nD τ).loc cc0_scratch0) ↦[S]{fullShare} f

omit [FloatOps F] in
instance xgPts_storable (c : Dev nD) (S) (f) : BI.Storable (upEmb : UEmb _ 𝕄) (xgPts (F := F) c S f) := by unfold xgPts; infer_instance
omit [FloatOps F] in
instance x8Pts_storable (c : Dev nD) (S) (f) : BI.Storable (upEmb : UEmb _ 𝕄) (x8Pts (F := F) c S f) := by unfold x8Pts; infer_instance

variable (xs : Dev nD → Vec F S4096x128 .f32)

/-! ## The schedule -/

/-- What the peer at offset `j + 1` hands device `c` as it enters: the columns of its gathered block that `c` fills. -/
def barPay (c : Dev nD) (j : Fin 31) : sProp 𝕄 := iprop(∃ f, xgPts (peer c j) (colsD c) f)
/-- What a departure gives back: the rows sent. -/
def sendPay (c : Dev nD) (i : Fin 31) : sProp 𝕄 := x8Pts c (rowsD (peer c i)) (X8 xs c)
/-- What an arrival gives: the columns filled. -/
def recvPay (c : Dev nD) (i : Fin 31) : sProp 𝕄 := xgPts c (colsD (back c i)) (G xs c)

/-- The payload of a cell. -/
def payOf (c : Dev nD) (d : Fin 31) : Option CI → sProp 𝕄
  | some (.inl ()) => barPay c d
  | some (.inr (.inl i)) => sendPay xs c i
  | some (.inr (.inr i)) => recvPay xs c i
  | none => iprop(emp)

/-- The duties of a cell. -/
def dutyOf : Option CI → Finset (Fin 31)
  | some (.inl ()) => Finset.univ
  | some (.inr _) => {0}
  | none => ∅

/-- The amount of a cell's duty. -/
def amountOf : Option CI → ℕ
  | some (.inl ()) => 1
  | _ => N

/-- One round for each cell. -/
def Rd : Rounds.Schedule (GSem nD τ sig) (Fin 31) 𝕄 where
  duties g r := if r = 0 ∧ g.1.2 = .tc then dutyOf (kindOf g.2) else ∅
  unitless _ := False
  amount g _ _ := amountOf (kindOf g.2)
  payload g _ d := payOf xs g.1.1 d (kindOf g.2)
  amount_pos g _ _ _ := by
    unfold amountOf
    split
    · exact Nat.one_pos
    · exact N_pos

instance Rd_payload_storable (g : GSem nD τ sig) (r : ℕ) (d : Fin 31) :
    BI.Storable (upEmb : UEmb _ 𝕄) ((Rd (F := F) xs).payload g r d) := by
  show BI.Storable upEmb (payOf xs g.1.1 d (kindOf g.2))
  unfold payOf barPay sendPay recvPay
  split <;> infer_instance

section Sched
variable (c : Dev nD) (i : Fin 31)

theorem duties_bar : (Rd xs).duties (barCell c) 0 = Finset.univ := by dsimp only [Rd]; rw [if_pos ⟨rfl, rfl⟩]; rfl
theorem duties_send : (Rd xs).duties (sendCell c i) 0 = {0} := by dsimp only [Rd]; rw [if_pos ⟨rfl, rfl⟩, kind_send]; rfl
theorem duties_recv : (Rd xs).duties (recvCell c i) 0 = {0} := by dsimp only [Rd]; rw [if_pos ⟨rfl, rfl⟩, kind_recv]; rfl
theorem duties_later (g : GSem nD τ sig) : ∀ r, 1 ≤ r → (Rd xs).duties g r = ∅ :=
  fun r hr => by dsimp only [Rd]; rw [if_neg fun h => by omega]

theorem amount_bar (d : Fin 31) : (Rd xs).amount (barCell c) 0 d = 1 := rfl
theorem amount_send (d : Fin 31) : (Rd xs).amount (sendCell c i) 0 d = N := by dsimp only [Rd]; rw [kind_send]; rfl
theorem amount_recv (d : Fin 31) : (Rd xs).amount (recvCell c i) 0 d = N := by dsimp only [Rd]; rw [kind_recv]; rfl

theorem expect_bar : (Rd xs).expect (barCell c) 0 = 31 := by
  unfold Schedule.expect Schedule.amountOf
  rw [duties_bar, Finset.sum_congr rfl fun d _ => amount_bar xs c d, Finset.sum_const, Finset.card_univ, Fintype.card_fin, smul_eq_mul]
theorem expect_send : (Rd xs).expect (sendCell c i) 0 = N := by
  unfold Schedule.expect Schedule.amountOf; rw [duties_send, Finset.sum_singleton, amount_send]
theorem expect_recv : (Rd xs).expect (recvCell c i) 0 = N := by
  unfold Schedule.expect Schedule.amountOf; rw [duties_recv, Finset.sum_singleton, amount_recv]

theorem payload_bar (d : Fin 31) : (Rd xs).payload (barCell c) 0 d = barPay c d := rfl
theorem payload_send (d : Fin 31) : (Rd xs).payload (sendCell c i) 0 d = sendPay xs c i := by dsimp only [Rd]; rw [kind_send]; rfl
theorem payload_recv (d : Fin 31) : (Rd xs).payload (recvCell c i) 0 d = recvPay xs c i := by dsimp only [Rd]; rw [kind_recv]; rfl

/-- All that the barrier's round hands over. -/
theorem rest_bar : bigSep ((Rd xs).duties (barCell c) 0 \ ∅) (fun d => (Rd xs).payload (barCell c) 0 d)
    = bigSep Finset.univ fun j => barPay (F := F) c j := by
  rw [Finset.sdiff_empty, duties_bar]; rfl
theorem rest_send : bigSep ((Rd xs).duties (sendCell c i) 0 \ ∅) (fun d => (Rd xs).payload (sendCell c i) 0 d) = sendPay xs c i := by
  rw [Finset.sdiff_empty, duties_send, bigSep_singleton, payload_send]
theorem rest_recv : bigSep ((Rd xs).duties (recvCell c i) 0 \ ∅) (fun d => (Rd xs).payload (recvCell c i) 0 d) = recvPay xs c i := by
  rw [Finset.sdiff_empty, duties_recv, bigSep_singleton, payload_recv]

end Sched

/-! ## What each device owes; the levels -/

/-- The arrivals a device still owes after the offsets up to a list's. -/
def oweR (c : Dev nD) (l : List (Fin 31)) : CellTallies nD τ sig Unit := (l.map fun i => tallyAt (recvCell (peer c i) i) () N).sum
/-- The barrier raises it still owes. -/
def oweB (c : Dev nD) (l : List (Fin 31)) : CellTallies nD τ sig Unit := (l.map fun i => tallyAt (barCell (peer c i)) () 1).sum
theorem oweR_cons (c : Dev nD) (i : Fin 31) (l : List (Fin 31)) : oweR c (i :: l) = oweR c l + tallyAt (recvCell (peer c i) i) () N := by
  unfold oweR; rw [List.map_cons, List.sum_cons]; exact add_comm _ _
theorem oweB_cons (c : Dev nD) (i : Fin 31) (l : List (Fin 31)) : oweB c (i :: l) = oweB c l + tallyAt (barCell (peer c i)) () 1 := by
  unfold oweB; rw [List.map_cons, List.sum_cons]; exact add_comm _ _
/-- What a device owes at launch. -/
def O₀ (c : Dev nD) : CellTallies nD τ sig Unit := oweR c offs + oweB c offs

/-- Every cell of a core may be waited on. -/
def L (g : GSem nD τ sig) : Finset Unit := if g.1.2 = .tc then {()} else ∅

/-- The level of a cell: the barrier's below the arrivals', the others' below both. -/
def lvOf : Option CI → ℕ
  | some (.inl ()) => 1
  | some (.inr (.inr _)) => 2
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem tally_sum_pos {α : Type} (f : α → GSem nD τ sig) (n : ℕ) (g : GSem nD τ sig) (u : Unit) :
    ∀ l : List α, 0 < ((l.map fun a => (tallyAt (f a) () n : CellTallies nD τ sig Unit)).sum) g u → ∃ a, g = f a
  | [], h => by
    rw [List.map_nil, List.sum_nil] at h; exact absurd h (Nat.lt_irrefl 0)
  | a :: l, h => by
    rw [List.map_cons, List.sum_cons, Pi.add_apply, Finsupp.add_apply, tallyAt_apply] at h
    by_cases e : g = f a ∧ u = ()
    · exact ⟨a, e.1⟩
    · rw [if_neg e, Nat.zero_add] at h
      exact tally_sum_pos f n g u l h

theorem oweR_pos {c : Dev nD} {l : List (Fin 31)} {g : GSem nD τ sig} {u : Unit} (h : 0 < oweR c l g u) : ∃ i, g = recvCell (peer c i) i :=
  tally_sum_pos (fun i => recvCell (peer c i) i) N g u l h
theorem oweB_pos {c : Dev nD} {l : List (Fin 31)} {g : GSem nD τ sig} {u : Unit} (h : 0 < oweB c l g u) : ∃ i, g = barCell (peer c i) :=
  tally_sum_pos (fun i => barCell (peer c i)) 1 g u l h

theorem O₀_pos {c : Dev nD} {g : GSem nD τ sig} {u : Unit} (h : 0 < O₀ c g u) :
    (∃ i, g = recvCell (peer c i) i) ∨ ∃ i, g = barCell (peer c i) := by
  unfold O₀ at h
  rw [Pi.add_apply, Finsupp.add_apply] at h
  rcases Nat.eq_zero_or_pos (oweR c offs g u) with e | e
  · rw [e, Nat.zero_add] at h; exact .inr (oweB_pos h)
  · exact .inl (oweR_pos e)

theorem lv_recv (c : Dev nD) (i : Fin 31) : lv (recvCell c i) () = 2 := by unfold lv; rw [kind_recv]; rfl
theorem lv_bar (c : Dev nD) : lv (barCell c) () = 1 := rfl

omit [FloatOps F] in
/-- A cell at level zero may be waited on whatever of the launch's debts is open. -/
theorem mayWait_low (c : Dev nD) (q : DmaSem sig) (hq : lvOf (kindOf (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨i, rfl⟩ <;> exact Finset.mem_singleton_self _)
      (fun p hp => by rw [Finset.mem_singleton.mp hp]; exact le_of_eq hq)
      (fun g u hg => by
        rcases O₀_pos hg with ⟨i, rfl⟩ | ⟨i, rfl⟩
        · rw [lv_recv]; decide
        · rw [lv_bar]; decide)
  · rw [MayWait_zero]; iintro -; iempintro

omit [FloatOps F] in
/-- At its barrier wait a device owes arrivals only, which lie above. -/
theorem mayWait_bar (c : Dev nD) :
    (levAts L lv : sProp 𝕄) ⊢ MayWait (c : Thread nD τ) (.reg barS) () (oweR c offs) :=
  MayOwe.of_cut (L := L) (lev := lv) 1 (fun p hp => by rw [Finset.mem_singleton.mp hp, L_tc]; exact Finset.mem_singleton_self _)
    (fun g u hg => by obtain ⟨i, rfl⟩ := oweR_pos hg; exact Finset.mem_singleton_self _)
    (fun p hp => by rw [Finset.mem_singleton.mp hp]; exact le_refl 1)
    (fun g u hg => by obtain ⟨i, rfl⟩ := oweR_pos hg; rw [lv_recv]; decide)

end Cert.KernelIdeal.Exchange

end
-- ==== Proof.Steps.lean ====
/- The exchange's four loops, one step of each: a signal, a copy started, an arrival awaited, a departure awaited. A
   loop over the offsets follows from its step by induction on the list. -/
module

public import proofs.«01_k».proof.Proof.Protocol
public import Idealize.ShloMosaic.Lib.Pipeline.BigSepL

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A loop from its step: with `P` for ever at hand, each element takes the state one on and turns its own `R` into `R'`. -/
theorem wp_each {α : Type} (c : Dev nD) (P : sProp 𝕄) [BI.Persistent P] (f : α → Pr F PUnit) (I : List α → sProp 𝕄) (R R' : α → sProp 𝕄)
    (step : ∀ a l, iprop(P ∗ I (a :: l) ∗ R a)
      ⊢ wp frame (wpE (defs₀ (F := F)) 𝒱₀ (c : Thread nD τ) none) Set.univ (f a) (fun _ => iprop(I l ∗ R' a))) :
    ∀ l, iprop(P ∗ I l ∗ bigSepL l R)
      ⊢ wp frame (wpE (defs₀ (F := F)) 𝒱₀ (c : Thread nD τ) none) Set.univ (each l f) (fun _ => iprop(I [] ∗ bigSepL l R'))
  | [] => by
    unfold each
    rw [wp_pure]
    iintro ⟨-, HI, HR⟩
    imodintro
    isplitl [HI]; · iexact HI
    iexact HR
  | a :: l => by
    unfold each
    rw [wp_bind, bigSepL_cons', bigSepL_cons']
    iintro ⟨#HP, HI, Ha, Hl⟩
    iapply (wp_wand_r frame (wpE (defs₀ (F := F)) 𝒱₀ (c : Thread nD τ) none) Set.univ (p := f a) (Q := fun _ => iprop(I l ∗ R' a)))
    isplitl [HI Ha]
    · iapply (step a l)
      isplitr; · iexact HP
      isplitl [HI] <;> iassumption
    · iintro %_ ⟨HI, Ha⟩
      iapply (wp_wand_r frame (wpE (defs₀ (F := F)) 𝒱₀ (c : Thread nD τ) none) Set.univ (p := each l f) (Q := fun _ => iprop(I [] ∗ bigSepL l R')))
      isplitl [HI Hl]
      · iapply (wp_each c P f I R R' step l)
        isplitr; · iexact HP
        isplitl [HI] <;> iassumption
      · iintro %_ ⟨HI, Hl⟩
        isplitl [HI]; · iexact HI
        isplitl [Ha] <;> iassumption

variable (xs : Dev nD → Vec F S4096x128 .f32)

/-! ## The records -/

/-- Every cell's invariant, and that every cell's first round is reached. -/
def records (K : Dev nD × CI → ℕ) : sProp 𝕄 :=
  iprop((bigSep Finset.univ fun p : Dev nD × CI => cellInv ER (Rd xs) (K p) (kcell p))
    ∗ bigSep Finset.univ fun p : Dev nD × CI => reached ER (kcell p) 0)

instance records_persistent (K : Dev nD × CI → ℕ) : BI.Persistent (records xs K) := by unfold records; infer_instance

theorem invs_at (K : Dev nD × CI → ℕ) (p : Dev nD × CI) :
    (bigSep Finset.univ fun p : Dev nD × CI => (cellInv ER (Rd xs) (K p) (kcell p) : sProp 𝕄)) ⊢ cellInv ER (Rd xs) (K p) (kcell p) :=
  bigSep_elim (Finset.mem_univ p)

omit [FloatOps F] in
theorem rounds_at (p : Dev nD × CI) :
    (bigSep Finset.univ fun p : Dev nD × CI => (reached ER (kcell p) 0 : sProp 𝕄)) ⊢ reached ER (kcell p) 0 :=
  bigSep_elim (Finset.mem_univ p)

theorem inv_at (K : Dev nD × CI → ℕ) (p : Dev nD × CI) : records xs K ⊢ cellInv ER (Rd xs) (K p) (kcell p) := by
  unfold records
  iintro ⟨#HI, -⟩
  iapply (invs_at xs K p)
  iexact HI

theorem reached_at (K : Dev nD × CI → ℕ) (p : Dev nD × CI) : records xs K ⊢ reached ER (kcell p) 0 := by
  unfold records
  iintro ⟨-, #HR⟩
  iapply (rounds_at (F := F) p)
  iexact HR

variable (K : Dev nD × CI → ℕ) (c : Dev nD)

/-! ## The steps -/

/-- Owing nothing but what `O` says. -/
def owing (O : CellTallies nD τ sig Unit) : sProp 𝕄 := iprop(∃ W : Waits sig Unit, owes (c : Thread nD τ) O W)

/-- One signal: the columns for the peer are handed over with it. -/
theorem wp_sig1 (i : Fin 31) (l : List (Fin 31)) :
    iprop(records xs K ∗ owing c (oweR c offs + oweB c (i :: l)) ∗ (dutyTok ER (barCell (peer c i)) 0 i.rev ∗ ∃ f, xgPts c (colsD (peer c i)) f))
      ⊢ wp frame (wpE (defs₀ (F := F)) 𝒱₀ (c : Thread nD τ) none) Set.univ (sig1 c i)
          (fun _ => iprop(owing c (oweR c offs + oweB c l) ∗ emp)) := by
  unfold sig1 semSignalWord owing
  iintro ⟨#HR, ⟨%W, HO⟩, Ht, Hx⟩
  iapply (Rounds.wp_signal 𝒱₀ ER (Rd xs) (c : Thread nD τ) none (dst := (peer c i : Thread nD τ)) (κ := K (peer c i, .inl ()))
      (d := i.rev) (by rw [duties_bar]; exact Finset.mem_univ _) ((amount_bar xs (peer c i) i.rev).trans (by decide)) ()
      (O₀ := oweR c offs + oweB c (i :: l)) (oweR c offs + oweB c l) (by rw [oweB_cons, ← add_assoc]; rfl) (W := W))
    $$ [HO Ht Hx]
  · isplitr; · iapply (inv_at xs K (peer c i, .inl ())); iexact HR
    isplitl [HO]; · iexact HO
    isplitl [Ht]; · iexact Ht
    isplitl [Hx]
    · rw [payload_bar]; unfold barPay; rw [peer_rev_peer]; iexact Hx
    · iapply (reached_at xs K (peer c i, .inl ())); iexact HR
  iintro HO
  rw [wp_ret]; imodintro
  isplitl [HO]; · iexists W; iexact HO
  iempintro

/-- One copy started: the rows go out, the peer's columns are filled. -/
theorem wp_send1 (i : Fin 31) (l : List (Fin 31)) :
    iprop(records xs K ∗ owing c (oweR c (i :: l))
        ∗ (x8Pts c (rowsD (peer c i)) (X8 xs c) ∗ barPay c i ∗ dutyTok ER (sendCell c i) 0 0 ∗ dutyTok ER (recvCell (peer c i) i) 0 0))
      ⊢ wp frame (wpE (defs₀ (F := F)) 𝒱₀ (c : Thread nD τ) none) Set.univ (send1 c i)
          (fun _ => iprop(owing c (oweR c l) ∗ cred (tallyAt (sendCell c i) () N))) := by
  unfold send1 owing barPay
  iintro ⟨#HR, ⟨%W, HO⟩, Hx, ⟨%fd, Hg⟩, HtS, HtR⟩
  iapply (Rounds.wp_send_pointsTo 𝒱₀ ER (Rd xs) (c : Thread nD τ) none (κ₁ := K (c, .inr (.inl i))) (κ₂ := K (peer c i, .inr (.inr i)))
    (c' := (peer c i : Thread nD τ)) (src := rowV c i) (dst := colV c) (q := fullShare) (fs := X8 xs c) (r₁ := 0) (r₂ := 0) (d₁ := 0) (d₂ := 0) (fd := fd)
    (by rw [duties_send]; exact Finset.mem_singleton_self _) (by rw [duties_recv]; exact Finset.mem_singleton_self _)
    () () N rfl (amount_send xs c i 0) (amount_recv xs (peer c i) i 0)
    (O₀ := oweR c (i :: l)) (oweR c l) (oweR_cons c i l) (W := W)
    (by rw [payload_send, rowV_set]; unfold sendPay x8Pts; exact BI.Entails.refl _)
    (by
      rw [payload_recv, colV_set]
      unfold recvPay xgPts
      rw [back_peer]
      exact Entails.of_eq (pointsTo_congr fun j hj => landed xs c i fd j hj)))
    $$ [Hx Hg HO HtS HtR]
  · isplitr; · iapply (inv_at xs K (c, .inr (.inl i))); iexact HR
    isplitr; · iapply (inv_at xs K (peer c i, .inr (.inr i))); iexact HR
    isplitl [Hx]; · rw [rowV_set]; unfold x8Pts; iexact Hx
    isplitl [Hg]; · rw [colV_set]; unfold xgPts; iexact Hg
    isplitl [HO]; · iexact HO
    isplitl [HtS]; · iexact HtS
    isplitr; · iapply (reached_at xs K (c, .inr (.inl i))); iexact HR
    isplitl [HtR]; · iexact HtR
    iapply (reached_at xs K (peer c i, .inr (.inr i))); iexact HR
  iintro ⟨Hc, HO⟩
  rw [wp_ret]; imodintro
  isplitl [HO]; · iexists W; iexact HO
  iexact Hc

/-- One arrival awaited: the columns are filled, and the cell closes. -/
theorem wp_recv1 (i : Fin 31) :
    iprop(records xs K ∗ owing c 0 ∗ (cred (tallyAt (recvCell c i) () N) ∗ atPos ER (recvCell c i) 0 ∅ 0))
      ⊢ wp frame (wpE (defs₀ (F := F)) 𝒱₀ (c : Thread nD τ) none) Set.univ (recv1 c i)
          (fun _ => iprop(owing c 0 ∗ (recvPay xs c i ∗ semVal (recvCell c i) 0))) := by
  unfold recv1 owing
  iintro ⟨#HR, ⟨%W, HO⟩, Hc, Hat⟩
  iapply (Rounds.wp_wait_rest_token 𝒱₀ ER (Rd xs) (c : Thread nD τ) none (κ := K (c, .inr (.inr i)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at xs K (c, .inr (.inr i))); iexact HR
    isplitl [Hc]; · iexact Hc
    isplitl [HO]; · iexact HO
    isplitr; · rw [MayWait_zero]; iempintro
    iexact Hat
  iintro ⟨HO, Hat, -, Hpay⟩
  ihave Hpay := (Entails.of_eq (rest_recv xs c i)) $$ Hpay
  imod (Rounds.cell_close ER (Rd xs) (Set.mem_univ (K (c, .inr (.inr i)))) (fun h => h) (R := 0 + 1) (duties_later xs (recvCell c i))) $$ [Hat] with Hz
  · isplitr; · iapply (inv_at xs K (c, .inr (.inr i))); iexact HR
    iexact Hat
  rw [wp_ret]; imodintro
  isplitl [HO]; · iexists _; iexact HO
  isplitl [Hpay] <;> iassumption

/-- One departure awaited: the rows are back, and the cell closes. -/
theorem wp_done1 (i : Fin 31) :
    iprop(records xs K ∗ owing c 0 ∗ (cred (tallyAt (sendCell c i) () N) ∗ atPos ER (sendCell c i) 0 ∅ 0))
      ⊢ wp frame (wpE (defs₀ (F := F)) 𝒱₀ (c : Thread nD τ) none) Set.univ (done1 c i)
          (fun _ => iprop(owing c 0 ∗ (sendPay xs c i ∗ semVal (sendCell c i) 0))) := by
  unfold done1 owing
  iintro ⟨#HR, ⟨%W, HO⟩, Hc, Hat⟩
  iapply (Rounds.wp_wait_rest_token 𝒱₀ ER (Rd xs) (c : Thread nD τ) none (κ := K (c, .inr (.inl i)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at xs K (c, .inr (.inl i))); iexact HR
    isplitl [Hc]; · iexact Hc
    isplitl [HO]; · iexact HO
    isplitr; · rw [MayWait_zero]; iempintro
    iexact Hat
  iintro ⟨HO, Hat, -, Hpay⟩
  ihave Hpay := (Entails.of_eq (rest_send xs c i)) $$ Hpay
  imod (Rounds.cell_close ER (Rd xs) (Set.mem_univ (K (c, .inr (.inl i)))) (fun h => h) (R := 0 + 1) (duties_later xs (sendCell c i))) $$ [Hat] with Hz
  · isplitr; · iapply (inv_at xs K (c, .inr (.inl i))); iexact HR
    iexact Hat
  rw [wp_ret]; imodintro
  isplitl [HO]; · iexists _; iexact HO
  isplitl [Hpay] <;> iassumption

/-- The wait on the barrier: every peer's columns for this device come with it, and the cell closes. -/
theorem wp_bar :
    iprop(records xs K ∗ owing c (oweR c offs) ∗ levAts L lv ∗ cred (tallyAt (barCell c) () 31) ∗ atPos ER (barCell c) 0 ∅ 0)
      ⊢ wp frame (wpE (defs₀ (F := F)) 𝒱₀ (c : Thread nD τ) none) Set.univ (semWaitWord barS 31#32)
          (fun _ => iprop(owing c (oweR c offs) ∗ (bigSep Finset.univ fun j => barPay c j) ∗ semVal (barCell c) 0)) := by
  unfold semWaitWord owing
  iintro ⟨#HR, ⟨%W, HO⟩, #Hlev, Hc, Hat⟩
  iapply (Rounds.wp_wait_rest_token 𝒱₀ ER (Rd xs) (c : Thread nD τ) none (κ := K (c, .inl ()))
      (wpE_semWait_eq 𝒱₀ (c : Thread nD τ) none Set.univ) (Set.mem_univ _) () (O := oweR c offs) (W := W) (R := 0) (m := 0) (T := ∅)
      (by rw [expect_bar]; decide)) $$ [Hc HO Hat]
  · isplitr; · iapply (inv_at xs K (c, .inl ())); iexact HR
    isplitl [Hc]; · iexact Hc
    isplitl [HO]; · iexact HO
    isplitr; · iapply (mayWait_bar c); iexact Hlev
    iexact Hat
  iintro ⟨HO, Hat, -, Hpay⟩
  ihave Hpay := (Entails.of_eq (rest_bar xs c)) $$ Hpay
  imod (Rounds.cell_close ER (Rd xs) (Set.mem_univ (K (c, .inl ()))) (fun h => h) (R := 0 + 1) (duties_later xs (barCell c))) $$ [Hat] with Hz
  · isplitr; · iapply (inv_at xs K (c, .inl ())); iexact HR
    iexact Hat
  rw [wp_ret]; imodintro
  isplitl [HO]; · iexists _; iexact HO
  isplitl [Hpay] <;> iassumption

end Cert.KernelIdeal.Exchange

end
-- ==== Proof.Chunks.lean ====
/- The weights' chunks: a chunk is fetched into one of four slots, its product is added to the result's buffer, and
   the slot takes the chunk four further on. The loop over the chunks keeps the sum of the products so far. -/
module

public import proofs.«01_k».proof.Proof.Steps
public import Idealize.ShloMosaic.Lib.Transfers

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

/-! ## Points-tos -/

section Pts
variable (c : Dev nD)

/-- The rows of the weights in chunk `k`. -/
def wPts (w : Vec F S4096x8192 .f32) (k : Fin 16) : sProp 𝕄 := ((c : Thread nD τ).loc main_arg1) ↦[wRows k]{fullShare} w
/-- A slot of the weights' buffer. -/
def slotPts (s : Fin 4) (f : Vec F S4x256x8192 .f32) : sProp 𝕄 := ((c : Thread nD τ).loc cc0_scratch2) ↦[slots s]{fullShare} f
/-- The result's buffer. -/
def oPts (f : Vec F S128x8192 .f32) : sProp 𝕄 := ((c : Thread nD τ).loc cc0_stg3_0) ↦{fullShare} f

/-- A slot's semaphore. -/
abbrev wCell (s : Fin 4) : GSem nD τ sig := ((c : Thread nD τ), .dma (wS s))

/-- A slot with nothing in flight to it. -/
def free (s : Fin 4) : sProp 𝕄 := iprop((∃ f, slotPts c s f) ∗ semVal (wCell c s) 0)

/-- The credit of one fetch. -/
abbrev NW : ℕ := (cc0_scratch2 : Ref sig .tc).dmaCredit S256x8192 .f32
theorem NW_pos : 0 < NW := View.dmaCredit_pos (slotV 0).view (by decide)

/-- Chunk `k` in flight to its slot. -/
def fly (w : Vec F S4096x8192 .f32) (k : Fin 16) : sProp 𝕄 :=
  iprop(∃ fd, Flight EC (c : Thread nD τ) (.dma (wS (slotOf k))) () NW
    iprop(slotPts c (slotOf k) ((slotV (slotOf k)).view.write (Elt F) fd ((wV k).view.read (Elt F) w) Finset.univ) ∗ wPts c w k))

end Pts

variable (xs : Dev nD → Vec F S4096x128 .f32) (w : Vec F S4096x8192 .f32) (c : Dev nD)

/-! ## One fetch -/

theorem wp_fetch1 (k : Fin 16) :
    iprop(free c (slotOf k) ∗ wPts c w k)
      ⊢ wp frame (wpE (defs₀ (F := F)) 𝒱₀ (c : Thread nD τ) none) Set.univ (fetch1 k) (fun _ => fly c w k) := by
  unfold fetch1 free
  iintro ⟨⟨⟨%fd, Hs⟩, Hv⟩, Hw⟩
  iapply (wp_dmaLocal EC 𝒱₀ (c : Thread nD τ) none (src := wV k) (dst := slotV (slotOf k)) (q := fullShare) (fs := w)
    (Sd := slots (slotOf k)) (fd := fd) () NW rfl NW_pos (by rw [slotV_set]; exact Finset.Subset.refl _)) $$ [Hs Hv Hw]
  · isplitl [Hw]; · rw [wV_set]; unfold wPts; iexact Hw
    isplitl [Hs]; · unfold slotPts; iexact Hs
    iexact Hv
  iintro Hf
  rw [wp_ret]; imodintro
  unfold fly
  iexists fd
  rw [wV_set]
  unfold slotPts wPts
  iexact Hf

/-- What a slot can take next: the rows of the chunk four further on, if there is one. -/
def next (k : Fin 16) : sProp 𝕄 := if h : k.val + 4 < 16 then wPts c w ⟨k.val + 4, h⟩ else iprop(emp)
/-- What the slot then is: in flight, or free. -/
def after (k : Fin 16) : sProp 𝕄 := if h : k.val + 4 < 16 then fly c w ⟨k.val + 4, h⟩ else free c (slotOf k)

theorem slotOf_next (k : Fin 16) (h : k.val + 4 < 16) : slotOf ⟨k.val + 4, h⟩ = slotOf k :=
  Fin.ext (by show (k.val + 4) % 4 = k.val % 4; omega)

theorem wp_refetch (k : Fin 16) :
    iprop(free c (slotOf k) ∗ next w c k)
      ⊢ wp frame (wpE (defs₀ (F := F)) 𝒱₀ (c : Thread nD τ) none) Set.univ (refetch k) (fun _ => after w c k) := by
  unfold refetch next after
  by_cases h : k.val + 4 < 16
  · rw [dif_pos h, dif_pos h, dif_pos h, ← slotOf_next k h]
    exact wp_fetch1 w c _
  · rw [dif_neg h, dif_neg h, dif_neg h, wp_pure]
    iintro ⟨H, -⟩
    imodintro
    iexact H

/-! ## One chunk -/

omit [FloatOps F] in
theorem hz2 : (![0, 0] : Fin 2 → Nat) = fun _ => 0 := funext fun a => by fin_cases a <;> rfl
omit [FloatOps F] in
theorem read_o (f : Vec F S128x8192 .f32) : oM.view.readAt (Elt F) oR.toLoadRect f = f :=
  Memref.readAt_unit_zero (Elt F) cc0_stg3_0 hz2 _ f
omit [FloatOps F] in
theorem write_o (f v : Vec F S128x8192 .f32) : (oM.access oR).write (Elt F) f v Finset.univ = v :=
  Memref.write_access_unit_zero_univ (Elt F) cc0_stg3_0 hz2 _ f v

/-- The chunk awaited and both operands read. -/
theorem wp_operands (k : Fin 16) {α : Type} (f : Vec F S128x256 .fp8e4m3 → Vec F S1x256x8192 .f32 → Pr F α) (Q : α → sProp 𝕄) :
    iprop((owing c 0 ∗ xgPts c Finset.univ (G xs c) ∗ fly c w k)
        ∗ ((owing c 0 ∗ xgPts c Finset.univ (G xs c) ∗ free c (slotOf k) ∗ wPts c w k)
          -∗ wp frame (wpE (defs₀ (F := F)) 𝒱₀ (c : Thread nD τ) none) Set.univ (f (opA xs c k) (opB w k)) Q))
      ⊢ wp frame (wpE (defs₀ (F := F)) 𝒱₀ (c : Thread nD τ) none) Set.univ (operands k f) Q := by
  unfold operands fly owing
  iintro ⟨⟨⟨%W, HO⟩, Hg, ⟨%fd, Hf⟩⟩, Hk⟩
  iapply (wp_waitLocal EC 𝒱₀ (c : Thread nD τ) none (dstw := slotV (slotOf k)) (srcw := wV k)
    (hsrc := View.wordExact_bits rfl) (hdst := (View.wordExact_bits rfl).reshape _ _) () (N := NW) rfl (W := W)) $$ [Hf HO]
  · isplitl [Hf] <;> iassumption
  iintro ⟨⟨Hs, Hw⟩, Hv, HO⟩
  unfold xgPts slotPts
  iapply (wp_load 𝒱₀ (c : Thread nD τ) none Set.univ (m := xgM) (Finset.subset_univ _)) $$ Hg; iintro Hg
  iapply (wp_load_rect 𝒱₀ (c : Thread nD τ) none Set.univ (m := wbM) (r := wbR (slotOf k)) (S := slots (slotOf k)) (q := fullShare)
    (f := (slotV (slotOf k)).view.write (Elt F) fd ((wV k).view.read (Elt F) w) Finset.univ)
    (by rw [← wbR_set]; exact Finset.subset_of_eq (View.set_slice_whole cc0_scratch2 (wbR (slotOf k))))) $$ Hs; iintro Hs
  have e : (wbM.access (wbR (slotOf k))).read (Elt F) ((slotV (slotOf k)).view.write (Elt F) fd ((wV k).view.read (Elt F) w) Finset.univ) = opB w k :=
    slot_read (slotOf k) k w fd
  rw [e]
  iapply Hk
  isplitl [HO]; · iexists _; iexact HO
  isplitl [Hg]; · iexact Hg
  isplitl [Hs Hv]
  · unfold free slotPts
    isplitl [Hs]; · iexists _; iexact Hs
    iexact Hv
  iexact Hw

/-- A later chunk. -/
theorem wp_chunk1 (k : Fin 16) (o : Vec F S128x8192 .f32) :
    iprop(owing c 0 ∗ xgPts c Finset.univ (G xs c) ∗ oPts c o ∗ fly c w k ∗ next w c k)
      ⊢ wp frame (wpE (defs₀ (F := F)) 𝒱₀ (c : Thread nD τ) none) Set.univ (chunk1 k)
          (fun _ => iprop(owing c 0 ∗ xgPts c Finset.univ (G xs c) ∗ oPts c (k0_pay4 (opA xs c k) (opB w k) o) ∗ wPts c w k ∗ after w c k)) := by
  unfold chunk1
  iintro ⟨HO, Hg, Ho, Hf, Hn⟩
  iapply (wp_operands xs w c k)
  isplitl [HO Hg Hf]
  · isplitl [HO]; · iexact HO
    isplitl [Hg] <;> iassumption
  iintro ⟨HO, Hg, Hs, Hw⟩
  unfold loadO storeO oPts
  simp only [Prog.lift, Prog.bind_op, Prog.bind_ret]
  iapply (wp_load 𝒱₀ (c : Thread nD τ) none Set.univ (m := oM) (Finset.subset_univ _)) $$ Ho; iintro Ho
  rw [read_o]
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [write_o]
  iapply (wp_wand_r frame (wpE (defs₀ (F := F)) 𝒱₀ (c : Thread nD τ) none) Set.univ (p := refetch k) (Q := fun _ => after w c k))
  isplitl [Hs Hn]
  · iapply (wp_refetch w c k)
    isplitl [Hs] <;> iassumption
  iintro %_ Ha
  isplitl [HO]; · iexact HO
  isplitl [Hg]; · iexact Hg
  isplitl [Ho]; · iexact Ho
  isplitl [Hw] <;> iassumption

/-- The first chunk. -/
theorem wp_chunk0 (o : Vec F S128x8192 .f32) :
    iprop(owing c 0 ∗ xgPts c Finset.univ (G xs c) ∗ oPts c o ∗ fly c w (ck 0) ∗ next w c (ck 0))
      ⊢ wp frame (wpE (defs₀ (F := F)) 𝒱₀ (c : Thread nD τ) none) Set.univ (chunk0 (F := F))
          (fun _ => iprop(owing c 0 ∗ xgPts c Finset.univ (G xs c) ∗ oPts c (acc xs w c 0) ∗ wPts c w (ck 0) ∗ after w c (ck 0))) := by
  unfold chunk0
  iintro ⟨HO, Hg, Ho, Hf, Hn⟩
  iapply (wp_operands xs w c (ck 0))
  isplitl [HO Hg Hf]
  · isplitl [HO]; · iexact HO
    isplitl [Hg] <;> iassumption
  iintro ⟨HO, Hg, Hs, Hw⟩
  unfold loadO storeO oPts
  simp only [Prog.lift, Prog.bind_op, Prog.bind_ret]
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [write_o]
  iapply (wp_wand_r frame (wpE (defs₀ (F := F)) 𝒱₀ (c : Thread nD τ) none) Set.univ (p := refetch (ck 0)) (Q := fun _ => after w c (ck 0)))
  isplitl [Hs Hn]
  · iapply (wp_refetch w c (ck 0))
    isplitl [Hs] <;> iassumption
  iintro %_ Ha
  isplitl [HO]; · iexact HO
  isplitl [Hg]; · iexact Hg
  isplitl [Ho]; · iexact Ho
  isplitl [Hw] <;> iassumption

/-! ## The loop -/

/-- Where chunk `j` stands once the chunks before `n` are done. -/
def st (n : ℕ) (j : Fin 16) : sProp 𝕄 :=
  if j.val < n then iprop(wPts c w j ∗ if 12 ≤ j.val then free c (slotOf j) else iprop(emp))
  else if j.val < n + 4 then fly c w j else wPts c w j

theorem st_done {n : ℕ} {j : Fin 16} (h : j.val < n) :
    st w c n j = iprop(wPts c w j ∗ if 12 ≤ j.val then free c (slotOf j) else iprop(emp)) := if_pos h
theorem st_fly {n : ℕ} {j : Fin 16} (h : ¬ j.val < n) (h' : j.val < n + 4) : st w c n j = fly c w j := by
  unfold st; rw [if_neg h, if_pos h']
theorem st_rest {n : ℕ} {j : Fin 16} (h : ¬ j.val < n + 4) : st w c n j = wPts c w j := by
  unfold st; rw [if_neg (by omega), if_neg h]

omit [FloatOps F] in
theorem bigSep_erase2 {s : Finset (Fin 16)} {i : Fin 16} {Φ : Fin 16 → sProp 𝕄} (h : i ∈ s) :
    bigSep s Φ = iprop(Φ i ∗ bigSep (s.erase i) Φ) := bigSep_erase h

/-- Doing chunk `k` changes where it and the chunk four further on stand. -/
theorem st_step (k : Fin 16) :
    bigSep Finset.univ (st w c k.val)
      ⊢ iprop((fly c w k ∗ next w c k) ∗ ((wPts c w k ∗ after w c k) -∗ bigSep Finset.univ (st w c (k.val + 1)))) := by
  by_cases h : k.val + 4 < 16
  · have hk : (⟨k.val + 4, h⟩ : Fin 16) ∈ (Finset.univ : Finset (Fin 16)).erase k :=
      Finset.mem_erase.2 ⟨fun e => by have := congrArg Fin.val e; simp only at this; omega, Finset.mem_univ _⟩
    rw [bigSep_univ_at (st w c k.val) k, bigSep_univ_at (st w c (k.val + 1)) k, bigSep_erase2 hk, bigSep_erase2 (Φ := st w c (k.val + 1)) hk,
      st_fly w c (by omega) (by omega), st_rest w c (j := ⟨k.val + 4, h⟩) (by show ¬ k.val + 4 < k.val + 4; omega), st_done w c (j := k) (by omega), if_neg (by omega),
      st_fly w c (n := k.val + 1) (j := ⟨k.val + 4, h⟩) (by show ¬ k.val + 4 < k.val + 1; omega) (by show k.val + 4 < k.val + 1 + 4; omega)]
    have hc : bigSep (((Finset.univ : Finset (Fin 16)).erase k).erase ⟨k.val + 4, h⟩) (st w c k.val)
        = bigSep (((Finset.univ : Finset (Fin 16)).erase k).erase ⟨k.val + 4, h⟩) (st w c (k.val + 1)) :=
      bigSep_congr fun j hj => by
        have h1 : j.val ≠ k.val + 4 := fun e => (Finset.mem_erase.1 hj).1 (Fin.ext e)
        have h2 : j.val ≠ k.val := fun e => (Finset.mem_erase.1 (Finset.mem_erase.1 hj).2).1 (Fin.ext e)
        unfold st
        by_cases a : j.val < k.val
        · rw [if_pos a, if_pos (show j.val < k.val + 1 by omega)]
        · by_cases b : j.val < k.val + 4
          · rw [if_neg a, if_pos b, if_neg (show ¬ j.val < k.val + 1 by omega), if_pos (show j.val < k.val + 1 + 4 by omega)]
          · rw [if_neg a, if_neg b, if_neg (show ¬ j.val < k.val + 1 by omega), if_neg (show ¬ j.val < k.val + 1 + 4 by omega)]
    rw [hc]
    unfold next after
    rw [dif_pos h, dif_pos h]
    iintro ⟨Hf, Hw, Hr⟩
    isplitl [Hf Hw]
    · isplitl [Hf] <;> iassumption
    iintro ⟨Hw, Hf⟩
    isplitl [Hw]
    · isplitl [Hw]; · iexact Hw
      iempintro
    isplitl [Hf] <;> iassumption
  · rw [bigSep_univ_at (st w c k.val) k, bigSep_univ_at (st w c (k.val + 1)) k,
      st_fly w c (by omega) (by omega), st_done w c (j := k) (by omega), if_pos (by omega)]
    have hc : bigSep ((Finset.univ : Finset (Fin 16)).erase k) (st w c k.val)
        = bigSep ((Finset.univ : Finset (Fin 16)).erase k) (st w c (k.val + 1)) :=
      bigSep_congr fun j hj => by
        have h2 : j.val ≠ k.val := fun e => (Finset.mem_erase.1 hj).1 (Fin.ext e)
        have h3 := j.isLt
        unfold st
        by_cases a : j.val < k.val
        · rw [if_pos a, if_pos (show j.val < k.val + 1 by omega)]
        · rw [if_neg a, if_pos (show j.val < k.val + 4 by omega), if_neg (show ¬ j.val < k.val + 1 by omega), if_pos (show j.val < k.val + 1 + 4 by omega)]
    rw [hc]
    unfold next after
    rw [dif_neg h, dif_neg h]
    iintro ⟨Hf, Hr⟩
    isplitl [Hf]
    · isplitl [Hf]; · iexact Hf
      iempintro
    iintro ⟨Hw, Hf⟩
    isplitl [Hw Hf]
    · isplitl [Hw] <;> iassumption
    iexact Hr

theorem st_step0 :
    bigSep Finset.univ (st w c 0)
      ⊢ iprop((fly c w (ck 0) ∗ next w c (ck 0)) ∗ ((wPts c w (ck 0) ∗ after w c (ck 0)) -∗ bigSep Finset.univ (st w c (0 + 1)))) :=
  st_step w c (ck 0)

/-- The state once the chunks up to `n` are done. -/
def Inv (n : ℕ) : sProp 𝕄 :=
  iprop(owing c 0 ∗ xgPts c Finset.univ (G xs c) ∗ oPts c (acc xs w c n) ∗ bigSep Finset.univ (st w c (n + 1)))

/-- The later chunks, from any one on. -/
theorem wp_chunks : ∀ (l : List (Fin 16)) (n : ℕ), l.map Fin.val = List.range' (n + 1) l.length → n + l.length = 15 →
    Inv xs w c n ⊢ wp frame (wpE (defs₀ (F := F)) 𝒱₀ (c : Thread nD τ) none) Set.univ (each l chunk1) (fun _ => Inv xs w c 15)
  | [], n, _, hn => by
    obtain rfl : n = 15 := hn
    unfold each
    rw [wp_pure]
    iintro H
    imodintro
    iexact H
  | k :: l, n, hl, hn => by
    rw [List.map_cons, List.length_cons, List.range'_succ] at hl
    have hk : k.val = n + 1 := (List.cons.inj hl).1
    have hl' := (List.cons.inj hl).2
    have hck : ck (n + 1) = k := by rw [← hk]; exact ck_val k
    unfold each
    rw [wp_bind]
    unfold Inv
    iintro ⟨HO, Hg, Ho, Hst⟩
    rw [← hk]
    ihave Hst := (st_step w c k) $$ Hst
    icases Hst with ⟨⟨Hf, Hn⟩, Hback⟩
    iapply (wp_wand_r frame (wpE (defs₀ (F := F)) 𝒱₀ (c : Thread nD τ) none) Set.univ (p := chunk1 k)
      (Q := fun _ => iprop(owing c 0 ∗ xgPts c Finset.univ (G xs c) ∗ oPts c (k0_pay4 (opA xs c k) (opB w k) (acc xs w c n)) ∗ wPts c w k ∗ after w c k)))
    isplitl [HO Hg Ho Hf Hn]
    · iapply (wp_chunk1 xs w c k (acc xs w c n))
      isplitl [HO]; · iexact HO
      isplitl [Hg]; · iexact Hg
      isplitl [Ho]; · iexact Ho
      isplitl [Hf] <;> iassumption
    · iintro %_ ⟨HO, Hg, Ho, Hw, Ha⟩
      iapply (wp_chunks l (n + 1) hl' (by rw [List.length_cons] at hn; omega))
      unfold Inv
      isplitl [HO]; · iexact HO
      isplitl [Hg]; · iexact Hg
      isplitl [Ho]
      · rw [show acc xs w c (n + 1) = k0_pay4 (opA xs c k) (opB w k) (acc xs w c n) by rw [← hck]; rfl]
        iexact Ho
      rw [← hk]
      iapply Hback
      isplitl [Hw] <;> iassumption

/-- All chunks. -/
theorem wp_allChunks (o : Vec F S128x8192 .f32) :
    iprop(owing c 0 ∗ xgPts c Finset.univ (G xs c) ∗ oPts c o ∗ bigSep Finset.univ (st w c 0))
      ⊢ wp frame (wpE (defs₀ (F := F)) 𝒱₀ (c : Thread nD τ) none) Set.univ (chunk0 >>= fun _ => each chunks chunk1) (fun _ => Inv xs w c 15) := by
  rw [wp_bind]
  iintro ⟨HO, Hg, Ho, Hst⟩
  ihave Hst := (st_step0 w c) $$ Hst
  icases Hst with ⟨⟨Hf, Hn⟩, Hback⟩
  iapply (wp_wand_r frame (wpE (defs₀ (F := F)) 𝒱₀ (c : Thread nD τ) none) Set.univ (p := chunk0)
    (Q := fun _ => iprop(owing c 0 ∗ xgPts c Finset.univ (G xs c) ∗ oPts c (acc xs w c 0) ∗ wPts c w (ck 0) ∗ after w c (ck 0))))
  isplitl [HO Hg Ho Hf Hn]
  · iapply (wp_chunk0 xs w c o)
    isplitl [HO]; · iexact HO
    isplitl [Hg]; · iexact Hg
    isplitl [Ho]; · iexact Ho
    isplitl [Hf] <;> iassumption
  · iintro %_ ⟨HO, Hg, Ho, Hw, Ha⟩
    iapply (wp_chunks xs w c chunks 0 (by decide) (by decide))
    unfold Inv
    isplitl [HO]; · iexact HO
    isplitl [Hg]; · iexact Hg
    isplitl [Ho]; · iexact Ho
    iapply Hback
    isplitl [Hw] <;> iassumption

end Cert.KernelIdeal.Exchange

end
-- ==== Proof.Stages.lean ====
/- The kernel function's stretches, each loop or straight piece of it from what it starts with to what it leaves, on
   whole buffers: the handshake, the device's own rows, the copies out, the first fetches, the arrivals, the products,
   the scaling, and the departures. -/
module

public import proofs.«01_k».proof.Proof.Chunks

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

/-- A stretch and what follows it. -/
theorem wp_then (c : Dev nD) {p : Pr F PUnit} {q : PUnit → Pr F PUnit} {P R : sProp 𝕄} {Q : PUnit → sProp 𝕄}
    (h : P ⊢ wp frame (wpE (defs₀ (F := F)) 𝒱₀ (c : Thread nD τ) none) Set.univ p (fun _ => R)) :
    iprop(P ∗ (R -∗ wp frame (wpE (defs₀ (F := F)) 𝒱₀ (c : Thread nD τ) none) Set.univ (q ⟨⟩) Q))
      ⊢ wp frame (wpE (defs₀ (F := F)) 𝒱₀ (c : Thread nD τ) none) Set.univ (p >>= q) Q := by
  rw [wp_bind]
  iintro ⟨HP, Hk⟩
  iapply (wp_wand_r frame (wpE (defs₀ (F := F)) 𝒱₀ (c : Thread nD τ) none) Set.univ (p := p) (Q := fun _ => R))
  isplitl [HP]
  · iapply h; iexact HP
  · iintro %_ HR
    iapply Hk
    iexact HR

section Whole

variable (c : Dev nD)

omit [FloatOps F] in
/-- A gathered block is a device's own columns and those of its peers. -/
theorem xg_peers (f : Vec F S128x4096 .fp8e4m3) :
    xgPts c Finset.univ f = iprop(xgPts c (colsD c) f ∗ bigSep Finset.univ fun i => xgPts (F := F) c (colsD (peer c i)) f) :=
  (pointsTo_fibres (ℓ := (c : Thread nD τ).loc cc0_scratch1) fullShare f colsD colsD_disj colsD_cov).trans
    (bigSep_peers c fun d => xgPts c (colsD d) f)
omit [FloatOps F] in
theorem xg_backs (f : Vec F S128x4096 .fp8e4m3) :
    xgPts c Finset.univ f = iprop(xgPts c (colsD c) f ∗ bigSep Finset.univ fun i => xgPts (F := F) c (colsD (back c i)) f) :=
  (pointsTo_fibres (ℓ := (c : Thread nD τ).loc cc0_scratch1) fullShare f colsD colsD_disj colsD_cov).trans
    (bigSep_backs c fun d => xgPts c (colsD d) f)
omit [FloatOps F] in
/-- A cast block is the rows of the device itself and those of its peers. -/
theorem x8_peers (f : Vec F S4096x128 .fp8e4m3) :
    x8Pts c Finset.univ f = iprop(x8Pts c (rowsD c) f ∗ bigSep Finset.univ fun i => x8Pts (F := F) c (rowsD (peer c i)) f) :=
  (pointsTo_fibres (ℓ := (c : Thread nD τ).loc cc0_scratch0) fullShare f rowsD rowsD_disj rowsD_cov).trans
    (bigSep_peers c fun d => x8Pts c (rowsD d) f)

/-- The staged block of `x`. -/
def xPts (f : Vec F S4096x128 .f32) : sProp 𝕄 := ((c : Thread nD τ).loc cc0_stg0_0) ↦{fullShare} f
/-- The weights. -/
def wWhole (w : Vec F S4096x8192 .f32) : sProp 𝕄 := ((c : Thread nD τ).loc main_arg1) ↦{fullShare} w
/-- The slots of the weights' buffer. -/
def slotsWhole (f : Vec F S4x256x8192 .f32) : sProp 𝕄 := ((c : Thread nD τ).loc cc0_scratch2) ↦{fullShare} f
/-- The staged scale of `x`. -/
def sxPts (f : Vec F S1 .f32) : sProp 𝕄 := ((c : Thread nD τ).loc cc0_stg1_0) ↦{fullShare} f
/-- The staged scale of the weights. -/
def swPts (f : Vec F S1 .f32) : sProp 𝕄 := ((c : Thread nD τ).loc cc0_stg2_0) ↦{fullShare} f

omit [FloatOps F] in
theorem w_chunks (w : Vec F S4096x8192 .f32) : wWhole c w = bigSep Finset.univ fun k => wPts (F := F) c w k :=
  pointsTo_fibres (ℓ := (c : Thread nD τ).loc main_arg1) fullShare w wRows wRows_disj wRows_cov
omit [FloatOps F] in
theorem slots_split (f : Vec F S4x256x8192 .f32) : slotsWhole c f = bigSep Finset.univ fun s => slotPts (F := F) c s f :=
  pointsTo_fibres (ℓ := (c : Thread nD τ).loc cc0_scratch2) fullShare f slots slots_disj slots_cov

/-- All slots free: the buffer whole at some contents, and the slots' semaphores at zero. -/
theorem free_join : (bigSep Finset.univ fun s => free (F := F) c s)
    ⊢ iprop((∃ f, slotsWhole c f) ∗ bigSep Finset.univ fun s => (semVal (wCell c s) 0 : sProp 𝕄)) := by
  unfold free
  rw [bigSep_sep']
  haveI : Nonempty (Vec F S4x256x8192 .f32) := ⟨fun _ => (Scalar.ofBits .f32 0#32 : F .f32)⟩
  iintro ⟨Hs, Hv⟩
  isplitl [Hs]
  · ihave Hs := (BI.bigSep_exists_pi Finset.univ (fun (s : Fin 4) (f : Vec F S4x256x8192 .f32) => slotPts c s f)) $$ Hs
    icases Hs with ⟨%fs, Hs⟩
    iexists (fun j => fs (j 0) j)
    rw [slots_split, bigSep_congr (s := Finset.univ) fun s _ => show slotPts (F := F) c s (fun j => fs (j 0) j) = slotPts c s (fs s) from
      pointsTo_congr fun j hj => congrArg (fun t => fs t j) (Fin.ext (Finset.mem_filter.1 hj).2)]
    iexact Hs
  iexact Hv

omit [FloatOps F] in
theorem free_split (f : Vec F S4x256x8192 .f32) :
    iprop(slotsWhole c f ∗ bigSep Finset.univ fun s => (semVal (wCell c s) 0 : sProp 𝕄)) ⊢ bigSep Finset.univ fun s => free (F := F) c s := by
  rw [slots_split, ← bigSep_sep']
  exact bigSep_mono fun s _ => show iprop(slotPts c s f ∗ semVal (wCell c s) 0) ⊢ free (F := F) c s from by
    unfold free
    iintro ⟨Hs, Hv⟩
    isplitl [Hs]; · iexists f; iexact Hs
    iexact Hv

end Whole

/-! ## The stretches -/

variable (xs : Dev nD → Vec F S4096x128 .f32) (K : Dev nD × CI → ℕ) (c : Dev nD)

omit [FloatOps F] in
theorem some_cols (f : Vec F S128x4096 .fp8e4m3) :
    (bigSep Finset.univ fun i => xgPts (F := F) c (colsD (peer c i)) f) ⊢ bigSep Finset.univ fun i => iprop(∃ f, xgPts (F := F) c (colsD (peer c i)) f) :=
  bigSep_mono fun i _ => show xgPts (F := F) c (colsD (peer c i)) f ⊢ iprop(∃ f, xgPts c (colsD (peer c i)) f) from by
    iintro H; iexists f; iexact H

/-- The handshake's signals: each hands a peer its columns; the device's own stay. -/
theorem wp_enter :
    iprop(records xs K ∗ owing c (O₀ c) ∗ (bigSep Finset.univ fun i => dutyTok ER (barCell (peer c i)) 0 i.rev) ∗ ∃ f, xgPts c Finset.univ f)
      ⊢ wp frame (wpE (defs₀ (F := F)) 𝒱₀ (c : Thread nD τ) none) Set.univ (each offs (sig1 c))
          (fun _ => iprop(owing c (oweR c offs) ∗ ∃ f, xgPts c (colsD c) f)) := by
  iintro ⟨#HR, HO, Ht, ⟨%f, Hg⟩⟩
  ihave Hg := (Entails.of_eq (xg_peers c f)) $$ Hg
  icases Hg with ⟨Hown, Hg⟩
  iapply (wp_wand_r frame (wpE (defs₀ (F := F)) 𝒱₀ (c : Thread nD τ) none) Set.univ (p := each offs (sig1 c))
    (Q := fun _ => iprop(owing c (oweR c offs + oweB c []) ∗ bigSepL offs fun _ => iprop(emp))))
  isplitl [HO Ht Hg]
  · iapply (wp_each c (records xs K) (sig1 c) (fun l => owing c (oweR c offs + oweB c l))
      (fun i => iprop(dutyTok ER (barCell (peer c i)) 0 i.rev ∗ ∃ f, xgPts c (colsD (peer c i)) f)) (fun _ => iprop(emp))
      (fun i l => wp_sig1 xs K c i l) offs)
    isplitr; · iexact HR
    isplitl [HO]; · iexact HO
    rw [← bigSep_offs, bigSep_sep']
    isplitl [Ht]; · iexact Ht
    iapply (some_cols c f)
    iexact Hg
  · iintro %_ ⟨HO, -⟩
    isplitl [HO]
    · rw [show oweR c offs + oweB c [] = oweR c offs from add_zero _]
      iexact HO
    iexists f; iexact Hown

omit [FloatOps F] in
theorem read_x (f : Vec F S4096x128 .f32) : xM.view.readAt (Elt F) xR.toLoadRect f = f :=
  Memref.readAt_unit_zero (Elt F) cc0_stg0_0 hz2 _ f
omit [FloatOps F] in
theorem write_x8 (f v : Vec F S4096x128 .fp8e4m3) : (x8M.access xR).write (Elt F) f v Finset.univ = v :=
  Memref.write_access_unit_zero_univ (Elt F) cc0_scratch0 hz2 _ f v

/-- The block cast and the device's own rows put in place. -/
theorem wp_own :
    iprop(xPts c (xs c) ∗ (∃ f, x8Pts c Finset.univ f) ∗ ∃ f, xgPts c (colsD c) f)
      ⊢ wp frame (wpE (defs₀ (F := F)) 𝒱₀ (c : Thread nD τ) none) Set.univ (own c)
          (fun _ => iprop(xPts c (xs c) ∗ x8Pts c Finset.univ (X8 xs c) ∗ xgPts c (colsD c) (G xs c))) := by
  unfold own xPts x8Pts xgPts
  simp only [Prog.lift, Prog.bind_op, Prog.bind_ret]
  iintro ⟨Hx, ⟨%f8, H8⟩, ⟨%fg, Hg⟩⟩
  iapply (wp_load 𝒱₀ (c : Thread nD τ) none Set.univ (m := xM) (Finset.subset_univ _)) $$ Hx; iintro Hx
  rw [read_x]
  iapply (wp_load 𝒱₀ (c : Thread nD τ) none Set.univ (m := x8M) (Finset.subset_univ _)) $$ H8; iintro H8
  iapply (wp_store 𝒱₀ (c : Thread nD τ) none Set.univ (m := x8M) (r := xR) (Mk := Finset.univ) (Finset.subset_univ _)) $$ H8; iintro H8
  rw [write_x8, show k0_pay1 (xs c) = X8 xs c from rfl]
  iapply (wp_load 𝒱₀ (c : Thread nD τ) none Set.univ (m := x8M) (Finset.subset_univ _)) $$ H8; iintro H8
  have hset : (xgM.access (Rect.unit (s := S128x4096) (k0_off2 c) S128x128.size (k0_off2_inb c))).set = colsD c :=
    (View.set_slice_whole cc0_scratch1 _).trans (colsD_unit c _ (k0_off2_eq c) _)
  iapply (wp_load_rect 𝒱₀ (c : Thread nD τ) none Set.univ (m := xgM)
    (r := Rect.unit (s := S128x4096) (k0_off2 c) S128x128.size (k0_off2_inb c)) (S := colsD c) (q := fullShare) (f := fg) (Finset.subset_of_eq hset)) $$ Hg; iintro Hg
  iapply (wp_store 𝒱₀ (c : Thread nD τ) none Set.univ (m := xgM)
    (r := Rect.unit (s := S128x4096) (k0_off2 c) S128x128.size (k0_off2_inb c)) (Mk := Finset.univ) (S := colsD c) (f := fg) (Finset.subset_of_eq hset)) $$ Hg; iintro Hg
  rw [wp_ret]; imodintro
  isplitl [Hx]; · iexact Hx
  isplitl [H8]; · iexact H8
  iapply (Entails.of_eq (pointsTo_congr fun j hj => owned xs c fg j hj))
  iexact Hg

/-- The copies out: the rows for the peers leave, a departure's credit for each comes. -/
theorem wp_sends :
    iprop(records xs K ∗ owing c (oweR c offs) ∗ x8Pts c Finset.univ (X8 xs c) ∗ (bigSep Finset.univ fun i => barPay c i)
        ∗ (bigSep Finset.univ fun i => dutyTok ER (sendCell c i) 0 0) ∗ bigSep Finset.univ fun i => dutyTok ER (recvCell (peer c i) i) 0 0)
      ⊢ wp frame (wpE (defs₀ (F := F)) 𝒱₀ (c : Thread nD τ) none) Set.univ (each offs (send1 c))
          (fun _ => iprop(owing c 0 ∗ x8Pts c (rowsD c) (X8 xs c) ∗ bigSep Finset.univ fun i => cred (tallyAt (sendCell c i) () N))) := by
  rw [x8_peers]
  iintro ⟨#HR, HO, ⟨Hown, H8⟩, Hb, HtS, HtR⟩
  iapply (wp_wand_r frame (wpE (defs₀ (F := F)) 𝒱₀ (c : Thread nD τ) none) Set.univ (p := each offs (send1 c))
    (Q := fun _ => iprop(owing c (oweR c []) ∗ bigSepL offs fun i => cred (tallyAt (sendCell c i) () N))))
  isplitl [HO H8 Hb HtS HtR]
  · iapply (wp_each c (records xs K) (send1 c) (fun l => owing c (oweR c l))
      (fun i => iprop(x8Pts c (rowsD (peer c i)) (X8 xs c) ∗ barPay c i ∗ dutyTok ER (sendCell c i) 0 0 ∗ dutyTok ER (recvCell (peer c i) i) 0 0))
      (fun i => cred (tallyAt (sendCell c i) () N)) (fun i l => wp_send1 xs K c i l) offs)
    isplitr; · iexact HR
    isplitl [HO]; · iexact HO
    rw [← bigSep_offs, bigSep_sep', bigSep_sep', bigSep_sep']
    isplitl [H8]; · iexact H8
    isplitl [Hb]; · iexact Hb
    isplitl [HtS] <;> iassumption
  · iintro %_ ⟨HO, Hc⟩
    isplitl [HO]; · iexact HO
    isplitl [Hown]; · iexact Hown
    rw [bigSep_offs]
    iexact Hc

/-- The arrivals: the gathered block is whole. -/
theorem wp_recvs :
    iprop(records xs K ∗ owing c 0 ∗ xgPts c (colsD c) (G xs c) ∗ (bigSep Finset.univ fun i => cred (tallyAt (recvCell c i) () N))
        ∗ bigSep Finset.univ fun i => atPos ER (recvCell c i) 0 ∅ 0)
      ⊢ wp frame (wpE (defs₀ (F := F)) 𝒱₀ (c : Thread nD τ) none) Set.univ (each offs (recv1 c))
          (fun _ => iprop(owing c 0 ∗ xgPts c Finset.univ (G xs c) ∗ bigSep Finset.univ fun i => semVal (recvCell c i) 0)) := by
  iintro ⟨#HR, HO, Hown, Hc, Hat⟩
  iapply (wp_wand_r frame (wpE (defs₀ (F := F)) 𝒱₀ (c : Thread nD τ) none) Set.univ (p := each offs (recv1 c))
    (Q := fun _ => iprop(owing c 0 ∗ bigSepL offs fun i => iprop(recvPay xs c i ∗ semVal (recvCell c i) 0))))
  isplitl [HO Hc Hat]
  · iapply (wp_each c (records xs K) (recv1 c) (fun _ => owing c 0)
      (fun i => iprop(cred (tallyAt (recvCell c i) () N) ∗ atPos ER (recvCell c i) 0 ∅ 0))
      (fun i => iprop(recvPay xs c i ∗ semVal (recvCell c i) 0)) (fun i _ => wp_recv1 xs K c i) offs)
    isplitr; · iexact HR
    isplitl [HO]; · iexact HO
    rw [← bigSep_offs, bigSep_sep']
    isplitl [Hc] <;> iassumption
  · rw [← bigSep_offs, bigSep_sep']
    iintro %_ ⟨HO, Hp, Hz⟩
    isplitl [HO]; · iexact HO
    isplitl [Hown Hp]
    · rw [xg_backs]
      isplitl [Hown]; · iexact Hown
      iexact Hp
    iexact Hz

/-- The departures: the cast block is whole again. -/
theorem wp_dones :
    iprop(records xs K ∗ owing c 0 ∗ x8Pts c (rowsD c) (X8 xs c) ∗ (bigSep Finset.univ fun i => cred (tallyAt (sendCell c i) () N))
        ∗ bigSep Finset.univ fun i => atPos ER (sendCell c i) 0 ∅ 0)
      ⊢ wp frame (wpE (defs₀ (F := F)) 𝒱₀ (c : Thread nD τ) none) Set.univ (each offs (done1 c))
          (fun _ => iprop(owing c 0 ∗ x8Pts c Finset.univ (X8 xs c) ∗ bigSep Finset.univ fun i => semVal (sendCell c i) 0)) := by
  iintro ⟨#HR, HO, Hown, Hc, Hat⟩
  iapply (wp_wand_r frame (wpE (defs₀ (F := F)) 𝒱₀ (c : Thread nD τ) none) Set.univ (p := each offs (done1 c))
    (Q := fun _ => iprop(owing c 0 ∗ bigSepL offs fun i => iprop(sendPay xs c i ∗ semVal (sendCell c i) 0))))
  isplitl [HO Hc Hat]
  · iapply (wp_each c (records xs K) (done1 c) (fun _ => owing c 0)
      (fun i => iprop(cred (tallyAt (sendCell c i) () N) ∗ atPos ER (sendCell c i) 0 ∅ 0))
      (fun i => iprop(sendPay xs c i ∗ semVal (sendCell c i) 0)) (fun i _ => wp_done1 xs K c i) offs)
    isplitr; · iexact HR
    isplitl [HO]; · iexact HO
    rw [← bigSep_offs, bigSep_sep']
    isplitl [Hc] <;> iassumption
  · rw [← bigSep_offs, bigSep_sep']
    iintro %_ ⟨HO, Hp, Hz⟩
    isplitl [HO]; · iexact HO
    isplitl [Hown Hp]
    · rw [x8_peers]
      isplitl [Hown]; · iexact Hown
      iexact Hp
    iexact Hz

/-! ## The weights before the first chunk and after the last -/

variable (w : Vec F S4096x8192 .f32)

/-- The first four chunks, each through its own slot. -/
def four : List (Fin 16) := [⟨0, by decide⟩, ⟨1, by decide⟩, ⟨2, by decide⟩, ⟨3, by decide⟩]

/-- The first four fetches. -/
theorem wp_fetches :
    iprop(emp ∗ emp ∗ bigSepL four fun k => iprop(free c (slotOf k) ∗ wPts c w k))
      ⊢ wp frame (wpE (defs₀ (F := F)) 𝒱₀ (c : Thread nD τ) none) Set.univ (each four (fetch1 (F := F)))
          (fun _ => iprop(emp ∗ bigSepL four fun k => fly c w k)) :=
  wp_each c iprop(emp) fetch1 (fun _ => iprop(emp)) (fun k => iprop(free c (slotOf k) ∗ wPts c w k)) (fun k => fly c w k)
    (fun k _ => by
      iintro ⟨-, -, H⟩
      iapply (wp_wand_r frame (wpE (defs₀ (F := F)) 𝒱₀ (c : Thread nD τ) none) Set.univ (p := fetch1 k) (Q := fun _ => fly c w k))
      isplitl [H]
      · iapply (wp_fetch1 w c k); iexact H
      iintro %_ H
      isplitr; · iempintro
      iexact H) four

/-- A family over the chunks: the first four and the rest. -/
theorem bigSep_four (Φ : Fin 16 → sProp 𝕄) :
    bigSep Finset.univ Φ = iprop(bigSepL four Φ ∗ bigSep (Finset.univ.filter fun k : Fin 16 => ¬ k.val < 4) Φ) := by
  rw [bigSep_filter_split Finset.univ (fun k : Fin 16 => k.val < 4), bigSep_eq_bigSepL_of_eq four (by decide) (by decide)]
  rfl

end Cert.KernelIdeal.Exchange

end
-- ==== Proof.Sound.lean ====
/- The kernel function from entry to exit: the stretches of `Stages.lean` one after the other, from the buffers, tokens
   and credits a device starts with to the result's buffer holding the scaled and clipped sum of the sixteen products. -/
module

public import proofs.«01_k».proof.Proof.Stages

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (xs : Dev nD → Vec F S4096x128 .f32) (K : Dev nD × CI → ℕ) (c : Dev nD) (w : Vec F S4096x8192 .f32)

/-! ## The weights before the first chunk and after the last -/

theorem free_four : (bigSep Finset.univ fun s => free (F := F) c s) = bigSepL four fun k => free c (slotOf k) :=
  bigSep_univ_eq_bigSepL [(0 : Fin 4), 1, 2, 3] (by decide) (by decide) fun s => free (F := F) c s

/-- The chunks past the fourth. -/
abbrev later : Finset (Fin 16) := Finset.univ.filter fun k : Fin 16 => ¬ k.val < 4

/-- What the first fetches take. -/
theorem w_start :
    iprop((bigSep Finset.univ fun s => free (F := F) c s) ∗ wWhole c w)
      ⊢ iprop((bigSepL four fun k => iprop(free c (slotOf k) ∗ wPts c w k)) ∗ bigSep later fun k => wPts c w k) := by
  rw [free_four, w_chunks, bigSep_four, show (bigSepL four fun k => iprop(free c (slotOf k) ∗ wPts c w k))
    = iprop((free c (slotOf ⟨0, by decide⟩) ∗ wPts c w ⟨0, by decide⟩) ∗ (free c (slotOf ⟨1, by decide⟩) ∗ wPts c w ⟨1, by decide⟩)
      ∗ (free c (slotOf ⟨2, by decide⟩) ∗ wPts c w ⟨2, by decide⟩) ∗ (free c (slotOf ⟨3, by decide⟩) ∗ wPts c w ⟨3, by decide⟩)) from rfl]
  show iprop((free c (slotOf ⟨0, by decide⟩) ∗ free c (slotOf ⟨1, by decide⟩) ∗ free c (slotOf ⟨2, by decide⟩) ∗ free c (slotOf ⟨3, by decide⟩))
    ∗ (wPts c w ⟨0, by decide⟩ ∗ wPts c w ⟨1, by decide⟩ ∗ wPts c w ⟨2, by decide⟩ ∗ wPts c w ⟨3, by decide⟩) ∗ bigSep later fun k => wPts c w k) ⊢ _
  iintro ⟨⟨F0, F1, F2, F3⟩, ⟨W0, W1, W2, W3⟩, Hr⟩
  isplitr [Hr]
  · isplitl [F0 W0]; · isplitl [F0] <;> iassumption
    isplitl [F1 W1]; · isplitl [F1] <;> iassumption
    isplitl [F2 W2]; · isplitl [F2] <;> iassumption
    isplitl [F3] <;> iassumption
  iexact Hr

/-- Four chunks in flight and the rest at home: where the loop over the chunks starts. -/
theorem st_start : iprop((bigSepL four fun k => fly c w k) ∗ bigSep later fun k => wPts c w k) = bigSep Finset.univ (st w c 0) := by
  rw [bigSep_four (st w c 0), bigSep_congr (s := later) (Ψ := st w c 0) fun k hk => (st_rest w c (n := 0) (j := k)
    (by have := (Finset.mem_filter.1 hk).2; omega)).symm]
  rfl

omit [FloatOps F] in
theorem last_four (Φ : Fin 16 → sProp 𝕄) :
    (bigSep Finset.univ fun k : Fin 16 => if 12 ≤ k.val then Φ k else iprop(emp)) = bigSep (Finset.univ.filter fun k : Fin 16 => 12 ≤ k.val) Φ :=
  (bigSep_filter Finset.univ (fun k : Fin 16 => 12 ≤ k.val) Φ).symm

/-- The last four chunks, by slot. -/
def lastE : Fin 4 ↪ Fin 16 where
  toFun s := ⟨12 + s.val, by have := s.isLt; omega⟩
  inj' s s' h := Fin.ext (by have := congrArg Fin.val h; simp only at this; omega)

theorem slotOf_last (s : Fin 4) : slotOf (lastE s) = s := Fin.ext (by show (12 + s.val) % 4 = s.val; have := s.isLt; omega)

theorem free_last : (bigSep (Finset.univ.filter fun k : Fin 16 => 12 ≤ k.val) fun k => free (F := F) c (slotOf k))
    = bigSep Finset.univ fun s => free (F := F) c s := by
  rw [show (Finset.univ.filter fun k : Fin 16 => 12 ≤ k.val) = (Finset.univ : Finset (Fin 4)).map lastE from by decide, bigSep_map]
  exact bigSep_congr fun s _ => congrArg (fun t => free (F := F) c t) (slotOf_last s)

/-- After the last chunk: the weights whole, every slot free. -/
theorem st_end : bigSep Finset.univ (st w c (15 + 1)) = iprop(wWhole c w ∗ bigSep Finset.univ fun s => free (F := F) c s) := by
  rw [bigSep_congr (s := Finset.univ) fun k _ => st_done w c (n := 15 + 1) (j := k) (by have := k.isLt; omega), bigSep_sep', ← w_chunks,
    last_four fun k => free (F := F) c (slotOf k), free_last]

/-! ## Scaling and clipping -/

/-- The one element of a scale. -/
def only (v : Vec F S1 .f32) : Elt F .f32 := v (Shape.Idx.first (s := S1) (by decide))

omit [FloatOps F] in
theorem one_idx (x y : S1.Idx) : x = y := funext fun a => Fin.ext (by
  match a with
  | ⟨0, _⟩ =>
    have h1 : (x 0).val < 1 := (x 0).isLt
    have h2 : (y 0).val < 1 := (y 0).isLt
    show (x 0).val = (y 0).val
    omega)

/-- The scaling: the result's buffer holds the sum scaled by both scales and clipped at zero. -/
theorem wp_finish (sx sw : Vec F S1 .f32) (o : Vec F S128x8192 .f32) :
    iprop(sxPts c sx ∗ swPts c sw ∗ oPts c o)
      ⊢ wp frame (wpE (defs₀ (F := F)) 𝒱₀ (c : Thread nD τ) none) Set.univ (finish (F := F))
          (fun _ => iprop(sxPts c sx ∗ swPts c sw ∗ oPts c (k0_pay25 (only sx) (only sw) o))) := by
  unfold finish loadO storeO smemLoad smemLoadElt sxPts swPts oPts
  simp only [Prog.lift, Prog.bind_op, Prog.bind_ret]
  iintro ⟨Hx, Hw, Ho⟩
  iapply (wp_load 𝒱₀ (c : Thread nD τ) none Set.univ (m := sxM) (Finset.subset_univ _)) $$ Hx; iintro Hx
  iapply (wp_load 𝒱₀ (c : Thread nD τ) none Set.univ (m := swM) (Finset.subset_univ _)) $$ Hw; iintro Hw
  iapply (wp_load 𝒱₀ (c : Thread nD τ) none Set.univ (m := oM) (Finset.subset_univ _)) $$ Ho; iintro Ho
  rw [read_o]
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [write_o, wp_ret]; imodintro
  isplitl [Hx]; · iexact Hx
  isplitl [Hw]; · iexact Hw
  have e1 : ∀ x : (Rect.unit (s := S1) ![0] S1.size inb_S1_S1_0).toLoadRect.shape.Idx,
      sxM.view.readAt (Elt F) (Rect.unit (s := S1) ![0] S1.size inb_S1_S1_0).toLoadRect sx x = only sx := fun x => congrArg sx (one_idx _ _)
  have e2 : ∀ x : (Rect.unit (s := S1) ![0] S1.size inb_S1_S1_0).toLoadRect.shape.Idx,
      swM.view.readAt (Elt F) (Rect.unit (s := S1) ![0] S1.size inb_S1_S1_0).toLoadRect sw x = only sw := fun x => congrArg sw (one_idx _ _)
  rw [e1, e2]
  iexact Ho

/-! ## The whole function -/

theorem each_four (f : Fin 16 → Pr F PUnit) (k : PUnit → Pr F PUnit) :
    (each four f >>= k) = (do f ⟨0, by decide⟩; f ⟨1, by decide⟩; f ⟨2, by decide⟩; f ⟨3, by decide⟩; k ⟨⟩) := by
  unfold four
  simp only [each, bind_assoc, pure_bind]

/-- The function with its loops and pieces grouped as the stretches. -/
theorem body_grouped : body (F := F) = (do
    let c : Dev nD ← Prog.lift .deviceId
    each offs (sig1 c)
    semWaitWord barS 31#32
    own c
    each offs (send1 c)
    each four fetch1
    each offs (recv1 c)
    (chunk0 >>= fun _ => each chunks chunk1)
    finish
    each offs (done1 c)) := by
  unfold body
  simp only [each_four, bind_assoc]

/-- What the tokens, positions and credits of a device are. -/
def linear : sProp 𝕄 :=
  iprop((atPos ER (barCell c) 0 ∅ 0 ∗ (bigSep Finset.univ fun i => atPos ER (sendCell c i) 0 ∅ 0) ∗ bigSep Finset.univ fun i => atPos ER (recvCell c i) 0 ∅ 0)
    ∗ ((bigSep Finset.univ fun i => dutyTok ER (barCell (peer c i)) 0 i.rev) ∗ (bigSep Finset.univ fun i => dutyTok ER (sendCell c i) 0 0)
      ∗ bigSep Finset.univ fun i => dutyTok ER (recvCell (peer c i) i) 0 0))

/-- The launch's credits of a device. -/
def credits : sProp 𝕄 :=
  iprop(cred (tallyAt (barCell c) () 31) ∗ bigSep Finset.univ fun i => cred (tallyAt (recvCell c i) () N))

/-- The scratch buffers, at any contents. -/
def scratch : sProp 𝕄 := iprop((∃ f, x8Pts (F := F) c Finset.univ f) ∗ (∃ f, xgPts (F := F) c Finset.univ f) ∗ ∃ f, slotsWhole (F := F) c f)

/-- A device's semaphores at zero: the barrier's, the departures', the arrivals'. -/
def zeros : sProp 𝕄 :=
  iprop(semVal (barCell c) 0 ∗ (bigSep Finset.univ fun i => semVal (sendCell c i) 0) ∗ bigSep Finset.univ fun i => semVal (recvCell c i) 0)

/-- The kernel function on one device, from what it enters with to what it leaves. -/
theorem wp_body (sx sw : Vec F S1 .f32) (o : Vec F S128x8192 .f32) :
    iprop(records xs K ∗ levAts L lv ∗ owing c (O₀ c) ∗ linear c ∗ credits c ∗ scratch c
        ∗ (bigSep Finset.univ fun s => semVal (wCell c s) 0) ∗ wWhole c w ∗ xPts c (xs c) ∗ sxPts c sx ∗ swPts c sw ∗ oPts c o)
      ⊢ wp frame (wpE (defs₀ (F := F)) 𝒱₀ (c : Thread nD τ) none) Set.univ (body (F := F))
          (fun _ => iprop(owing c 0 ∗ zeros c ∗ scratch c ∗ (bigSep Finset.univ fun s => semVal (wCell c s) 0) ∗ wWhole c w
            ∗ xPts c (xs c) ∗ sxPts c sx ∗ swPts c sw ∗ oPts c (result xs w (only sx) (only sw) c))) := by
  rw [body_grouped]
  simp only [Prog.lift, Prog.bind_op, Prog.bind_ret, wp_deviceId]
  unfold linear credits
  iintro ⟨#HR, #Hlev, HO, ⟨⟨HaB, HaS, HaV⟩, HtB, HtS, HtV⟩, ⟨HcB, HcV⟩, Hscr, Hz, Hw, Hx, Hsx, Hsw, Ho⟩
  unfold scratch
  icases Hscr with ⟨H8, Hg, ⟨%fs, Hs⟩⟩
  iapply (wp_then c (wp_enter xs K c))
  isplitl [HO HtB Hg]
  · isplitr; · iexact HR
    isplitl [HO]; · iexact HO
    isplitl [HtB] <;> iassumption
  iintro ⟨HO, Hg⟩
  iapply (wp_then c (wp_bar xs K c))
  isplitl [HO HcB HaB]
  · isplitr; · iexact HR
    isplitl [HO]; · iexact HO
    isplitr; · iexact Hlev
    isplitl [HcB] <;> iassumption
  iintro ⟨HO, Hb, HzB⟩
  iapply (wp_then c (wp_own xs c))
  isplitl [Hx H8 Hg]
  · isplitl [Hx]; · iexact Hx
    isplitl [H8] <;> iassumption
  iintro ⟨Hx, H8, Hg⟩
  iapply (wp_then c (wp_sends xs K c))
  isplitl [HO H8 Hb HtS HtV]
  · isplitr; · iexact HR
    isplitl [HO]; · iexact HO
    isplitl [H8]; · iexact H8
    isplitl [Hb]; · iexact Hb
    isplitl [HtS] <;> iassumption
  iintro ⟨HO, H8, HcS⟩
  ihave Hf := (free_split c fs) $$ [Hs Hz]
  · isplitl [Hs] <;> iassumption
  ihave Hf := (w_start c w) $$ [Hf Hw]
  · isplitl [Hf] <;> iassumption
  icases Hf with ⟨Hf, Hrest⟩
  iapply (wp_then c (wp_fetches c w))
  isplitl [Hf]
  · isplitr; · iempintro
    isplitr; · iempintro
    iexact Hf
  iintro ⟨-, Hf⟩
  ihave Hst := (Entails.of_eq (st_start c w)) $$ [Hf Hrest]
  · isplitl [Hf] <;> iassumption
  iapply (wp_then c (wp_recvs xs K c))
  isplitl [HO Hg HcV HaV]
  · isplitr; · iexact HR
    isplitl [HO]; · iexact HO
    isplitl [Hg]; · iexact Hg
    isplitl [HcV] <;> iassumption
  iintro ⟨HO, Hg, HzV⟩
  iapply (wp_then c (wp_allChunks xs w c o))
  isplitl [HO Hg Ho Hst]
  · isplitl [HO]; · iexact HO
    isplitl [Hg]; · iexact Hg
    isplitl [Ho] <;> iassumption
  unfold Inv
  iintro ⟨HO, Hg, Ho, Hst⟩
  ihave Hst := (Entails.of_eq (st_end c w)) $$ Hst
  icases Hst with ⟨Hw, Hf⟩
  ihave Hf := (free_join (F := F) c) $$ Hf
  icases Hf with ⟨Hs, Hz⟩
  iapply (wp_then c (wp_finish c sx sw (acc xs w c 15)))
  isplitl [Hsx Hsw Ho]
  · isplitl [Hsx]; · iexact Hsx
    isplitl [Hsw] <;> iassumption
  iintro ⟨Hsx, Hsw, Ho⟩
  iapply (wp_wand_r frame (wpE (defs₀ (F := F)) 𝒱₀ (c : Thread nD τ) none) Set.univ (p := each offs (done1 c))
    (Q := fun _ => iprop(owing c 0 ∗ x8Pts c Finset.univ (X8 xs c) ∗ bigSep Finset.univ fun i => semVal (sendCell c i) 0)))
  isplitl [HO H8 HcS HaS]
  · iapply (wp_dones xs K c)
    isplitr; · iexact HR
    isplitl [HO]; · iexact HO
    isplitl [H8]; · iexact H8
    isplitl [HcS] <;> iassumption
  iintro %_ ⟨HO, H8, HzS⟩
  isplitl [HO]; · iexact HO
  isplitl [HzB HzS HzV]
  · unfold zeros
    isplitl [HzB]; · iexact HzB
    isplitl [HzS] <;> iassumption
  isplitl [H8 Hg Hs]
  · isplitl [H8]; · iexists _; iexact H8
    isplitl [Hg]; · iexists _; iexact Hg
    iexact Hs
  isplitl [Hz]; · iexact Hz
  isplitl [Hw]; · iexact Hw
  isplitl [Hx]; · iexact Hx
  isplitl [Hsx]; · iexact Hsx
  isplitl [Hsw]; · iexact Hsw
  iexact Ho

end Cert.KernelIdeal.Exchange

end
-- ==== Proof.Pipe.lean ====
/- The kernel's one region: what each window's staging buffer holds at its one point, what is kept beside the windows
   before the body and after it, and the body's obligation, which is `wp_body`. -/
module

public import proofs.«01_k».proof.Proof.Sound

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## The arguments -/

/-- Every device's columns of `x`. -/
def xOf (c : Dev nD) : Vec F S4096x128 .f32 := m ((c : Thread nD τ).loc main_arg0)
/-- A device's weights. -/
def wOf (c : Dev nD) : Vec F S4096x8192 .f32 := m ((c : Thread nD τ).loc main_arg1)
/-- A device's scale of `x`. -/
def sxOf (c : Dev nD) : Vec F S1 .f32 := m ((c : Thread nD τ).loc main_arg2)
/-- A device's scale of the weights. -/
def swOf (c : Dev nD) : Vec F S1 .f32 := m ((c : Thread nD τ).loc main_arg3)
/-- What a device's kernel computes. -/
def outOf (c : Dev nD) : Vec F S128x8192 .f32 := result (xOf m) (wOf m c) (only (sxOf m c)) (only (swOf m c)) c

theorem off_zero {r : Nat} (d : Fin r → Nat) : (fun a => 0 * d a) = fun _ => 0 := funext fun a => Nat.zero_mul _

/-! ## The region's data -/

/-- The slots' semaphores, at zero. -/
def idle (c : Dev nD) : sProp 𝕄 := bigSep Finset.univ fun s => semVal (wCell c s) 0

/-- What the kernel starts with beside its buffers. -/
def ghost (c : Dev nD) : sProp 𝕄 := iprop((∃ K, records (xOf m) K) ∗ linear c ∗ idle c)

/-- What a device holds before its region, its scratch apart. -/
def start (c : Dev nD) : sProp 𝕄 := iprop(ghost m c ∗ credits c ∗ levAts L lv ∗ wWhole c (wOf m c))
/-- What is kept beside the windows before the body. -/
def Φ₀ (c : Dev nD) : sProp 𝕄 := iprop(start m c ∗ scratch c)
/-- What is kept beside them after it. -/
def Φ₁ (c : Dev nD) : sProp 𝕄 := iprop(scratch c ∗ zeros c ∗ idle c ∗ wWhole c (wOf m c))

/-- The region's data: the windows' arrays as launched, the staging buffers after the body, and what is owed. -/
def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => sxOf m c
    | ⟨2, _⟩ => swOf m c
    | ⟨3, _⟩ => outOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_win (Φ : Fin cfg0.W → sProp 𝕄) :
    bigSep Finset.univ Φ = iprop(Φ (0 : Fin 4) ∗ Φ (1 : Fin 4) ∗ Φ (2 : Fin 4) ∗ Φ (3 : Fin 4)) := bigSep_W0 Φ

/-! ## What the body finds staged -/

omit [FloatOps F] in
theorem read_win0 (f : Vec F S4096x128 .f32) : (win0_0.blk t0_0).view.read (Elt F) f = f :=
  Memref.read_access_unit_zero (Elt F) main_arg0 (off_zero _) _ f
omit [FloatOps F] in
theorem read_win1 (f : Vec F S1 .f32) : (win0_1.blk t0_0).view.read (Elt F) f = f :=
  Memref.read_access_unit_zero (Elt F) main_arg2 (off_zero _) _ f
omit [FloatOps F] in
theorem read_win2 (f : Vec F S1 .f32) : (win0_2.blk t0_0).view.read (Elt F) f = f :=
  Memref.read_access_unit_zero (Elt F) main_arg3 (off_zero _) _ f
omit [FloatOps F] in
theorem read_win3 (f : Vec F S128x8192 .f32) : (win0_3.blk t0_0).view.read (Elt F) f = f :=
  Memref.read_access_unit_zero (Elt F) main_v1 (off_zero _) _ f

theorem before_0 (c : Dev nD) (d) : (dats (F := F) m 0 c).before (0 : Fin 4) t0_0 d = xOf m c := by
  unfold Dat.before; rw [if_pos (fetch0_0 t0_0)]; exact (show _ = (win0_0.blk t0_0).view.read (Elt F) (xOf m c) from rfl).trans (read_win0 _)
theorem before_1 (c : Dev nD) (d) : (dats (F := F) m 0 c).before (1 : Fin 4) t0_0 d = sxOf m c := by
  unfold Dat.before; rw [if_pos (fetch0_1 t0_0)]; exact (show _ = (win0_1.blk t0_0).view.read (Elt F) (sxOf m c) from rfl).trans (read_win1 _)
theorem before_2 (c : Dev nD) (d) : (dats (F := F) m 0 c).before (2 : Fin 4) t0_0 d = swOf m c := by
  unfold Dat.before; rw [if_pos (fetch0_2 t0_0)]; exact (show _ = (win0_2.blk t0_0).view.read (Elt F) (swOf m c) from rfl).trans (read_win2 _)

/-! ## The body's obligation -/

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given. -/
def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))

/-- What it leaves. -/
def bodyPost (c : Dev nD) : sProp 𝕄 :=
  iprop(Φ₁ m c ∗ (dats m 0 c).owesAt () t0_0.succ ∗ stg c cc0_stg0_0 (xOf m c) ∗ stg c cc0_stg1_0 (sxOf m c)
    ∗ stg c cc0_stg2_0 (swOf m c) ∗ stg c cc0_stg3_0 (outOf m c))

/-- The body leaves `bodyPost` when given `bodyPre`. -/
theorem body_sound (c : Dev nD) :
    bodyPre m c ⊢ wp frame (wpE (defs₀ (F := F)) 𝒱₀ (c : Thread nD τ) none) Set.univ (body (F := F)) (fun _ => bodyPost m c) := by
  unfold bodyPre Φ₀ start ghost idle Dat.owesAt Pipeline.owesWithin
  simp only [before_0, before_1, before_2]
  rw [show (dats m 0 c).owed t0_0.castSucc = O₀ c from rfl]
  iintro ⟨⟨⟨⟨⟨%K, HR⟩, Hlin, Hz⟩, Hcr, Hlev, Hw⟩, Hscr⟩, ⟨%W, %hW, HO⟩, ⟨%d0, %f0, %h0, H0⟩, ⟨%d1, %f1, %h1, H1⟩, ⟨%d2, %f2, %h2, H2⟩, ⟨%d3, %f3, %h3, H3⟩⟩
  subst h0 h1 h2
  iapply (wp_wand_r frame (wpE (defs₀ (F := F)) 𝒱₀ (c : Thread nD τ) none) Set.univ (p := body (F := F))
    (Q := fun _ => iprop(owing c 0 ∗ zeros c ∗ scratch c ∗ (bigSep Finset.univ fun s => semVal (wCell c s) 0) ∗ wWhole c (wOf m c)
            ∗ xPts c (xOf m c) ∗ sxPts c (sxOf m c) ∗ swPts c (swOf m c) ∗ oPts c (result (xOf m) (wOf m c) (only (sxOf m c)) (only (swOf m c)) c))))
  isplitl
  · iapply (wp_body (xOf m) K c (wOf m c) (sxOf m c) (swOf m c) f3)
    isplitl [HR]; · iexact HR
    isplitl [Hlev]; · iexact Hlev
    isplitl [HO]; · unfold owing; iexists W; iexact HO
    isplitl [Hlin]; · iexact Hlin
    isplitl [Hcr]; · iexact Hcr
    isplitl [Hscr]; · iexact Hscr
    isplitl [Hz]; · iexact Hz
    isplitl [Hw]; · iexact Hw
    isplitl [H0]; · unfold xPts; iexact H0
    isplitl [H1]; · unfold sxPts; iexact H1
    isplitl [H2]; · unfold swPts; iexact H2
    unfold oPts; iexact H3
  unfold owing xPts sxPts swPts oPts
  iintro %_ ⟨⟨%W', HO⟩, Hzs, Hscr, Hz, Hw, H0, H1, H2, H3⟩
  unfold bodyPost Φ₁ idle outOf Dat.owesAt Pipeline.owesWithin
  rw [show (dats m 0 c).owed t0_0.succ = 0 from rfl]
  isplitl [Hscr Hzs Hz Hw]
  · isplitl [Hscr]; · iexact Hscr
    isplitl [Hzs]; · iexact Hzs
    isplitl [Hz] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 100000 in
/-- The library's obligation of the body. -/
theorem body_obligation (c : Dev nD) : BodyObligation (dats (F := F) m 0 c) (defs₀ (F := F)) 𝒱₀ () Set.univ := fun t => by
  rw [fin_N0 t]
  rw [bigSep_win, bigSep_win]
  simp only [owns_whole_eq]
  show bodyPre m c ⊢ wp frame (wpE (defs₀ (F := F)) 𝒱₀ c none) Set.univ (bodyAt0 t0_0) (fun _ => bodyPost m c)
  rw [bodyAt_eq]
  exact body_sound m c

end Cert.KernelIdeal.Exchange

end
-- ==== Proof.Deal.lean ====
/- What the launch deals. Every device's 63 cells are allocated under one map of names, whose records all devices share;
   each device keeps the positions of its own cells and is handed the tokens of the duties it pays, most of them on
   its peers' cells; and the credits of its waits are the sums of what its peers owe it. -/
module

public import proofs.«01_k».proof.Proof.Pipe
public import Idealize.ShloMosaic.Lib.Pipeline.Launch

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

/-! ## Cells and tokens -/

/-- All cells of the exchange. -/
def cells : Finset (GSem nD τ sig) := Finset.univ.map ⟨kcell, kcell_injective⟩

/-- A device's duties by its own cells: the barrier's 31, one for each departure, one for each arrival. -/
def tokOf : Dev nD × (Fin 31 ⊕ (Fin 31 ⊕ Fin 31)) → GSem nD τ sig × ℕ × Fin 31
  | (c, .inl d) => (barCell c, 0, d)
  | (c, .inr (.inl i)) => (sendCell c i, 0, 0)
  | (c, .inr (.inr i)) => (recvCell c i, 0, 0)

/-- The device, the cell's kind and the duty of a token tell it apart. -/
theorem tokOf_injective : Function.Injective tokOf := by
  rintro ⟨c, k⟩ ⟨c', k'⟩ h
  have h1 : c = c' := by
    have := congrArg (fun x : GSem nD τ sig × ℕ × Fin 31 => x.1.1.1) h
    rcases k with d | i | i <;> rcases k' with d' | i' | i' <;> exact this
  have h2 := congrArg (fun x : GSem nD τ sig × ℕ × Fin 31 => kindOf x.1.2) h
  have h3 := congrArg (fun x : GSem nD τ sig × ℕ × Fin 31 => x.2.2) h
  have hb : kindOf (.reg barS) = some (.inl ()) := rfl
  rcases k with d | i | i <;> rcases k' with d' | i' | i' <;> simp only [tokOf, kind_send, kind_recv, hb] at h2 h3
  · rw [h1, h3]
  · cases h2
  · cases h2
  · cases h2
  · cases h2; rw [h1]
  · cases h2
  · cases h2
  · cases h2
  · cases h2; rw [h1]

/-- All duties' tokens. -/
def duties : Finset (GSem nD τ sig × ℕ × Fin 31) := Finset.univ.map ⟨tokOf, tokOf_injective⟩

/-- The resource the launch starts from. -/
def u₀ : UU := (initOf (Pipeline.cells cfgs cellOf_inj) (Pipeline.launchToks cfgs cellOf_inj), (initOf cells duties, 1))

/-- The tokens of a device's own cells. -/
def ownToks (c : Dev nD) : sProp 𝕄 :=
  iprop((bigSep Finset.univ fun d => dutyTok ER (barCell c) 0 d) ∗ (bigSep Finset.univ fun i => dutyTok ER (sendCell c i) 0 0)
    ∗ bigSep Finset.univ fun i => dutyTok ER (recvCell c i) 0 0)

/-- The tokens of the duties a device pays. -/
def payToks (c : Dev nD) : sProp 𝕄 :=
  iprop((bigSep Finset.univ fun i => dutyTok ER (barCell (peer c i)) 0 i.rev) ∗ (bigSep Finset.univ fun i => dutyTok ER (sendCell c i) 0 0)
      ∗ bigSep Finset.univ fun i => dutyTok ER (recvCell (peer c i) i) 0 0)

/-- A device's share of the launch's resource. -/
def share (c : Dev nD) : sProp 𝕄 :=
  iprop((bigSep Finset.univ fun k : CI => roundState ER (Rd (xOf m)) (kcell (c, k)) 0)
    ∗ (bigSep Finset.univ fun k : CI => iprop(atPos ER (kcell (c, k)) 0 ∅ 0 ∗ reached ER (kcell (c, k)) 0)) ∗ ownToks c)

omit [FloatOps F] in
theorem over_cells (Φ : GSem nD τ sig → sProp 𝕄) :
    bigSep cells Φ = bigSep Finset.univ fun c : Dev nD => bigSep Finset.univ fun k : CI => Φ (kcell (c, k)) := by
  unfold cells; rw [bigSep_map, bigSep_univ_prod]; rfl

omit [FloatOps F] in
theorem over_duties :
    bigSep duties (fun x => (dutyTok ER x.1 x.2.1 x.2.2 : sProp 𝕄)) = bigSep Finset.univ fun c : Dev nD => ownToks c := by
  unfold duties; rw [bigSep_map, bigSep_univ_prod]
  exact bigSep_congr fun c _ => by unfold ownToks; rw [bigSep_univ_sum, bigSep_univ_sum]; rfl

/-- The exchange's resource is every device's share of it. -/
theorem fund_exchange : BI.own (ER (initOf cells duties)) ⊢ (|==> bigSep Finset.univ (share m) : sProp 𝕄) := by
  iintro HX
  imod (Rounds.fund ER (Rd (xOf m)) cells duties) $$ HX with ⟨Hst, Hr, Hat, Htok⟩
  imodintro
  ihave Hst' := (Entails.of_eq (over_cells fun g => roundState ER (Rd (xOf m)) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq (over_duties (F := F))) $$ Htok
  unfold share; simp only [bigSep_sep']
  isplitl [Hst']; · iexact Hst'
  isplitl [Hat' Hr']
  · isplitl [Hat'] <;> iassumption
  iexact Htok'

/-! ## The semaphores -/

/-- The kernel's own semaphores that it uses: the slots', the departures', the arrivals'. -/
def osem : Fin 4 ⊕ (Fin 31 ⊕ Fin 31) → SemLoc sig
  | .inl s => .dma (wS s)
  | .inr (.inl i) => .dma (sendS i)
  | .inr (.inr i) => .dma (recvS i)

/-- They are scoped, distinct, and none is a staging buffer's. -/
theorem ownSemFacts : Pipeline.OwnSemFacts cfg0.spec osem := by decide +kernel

omit [FloatOps F] in
theorem ownSems0_eq (c : Dev nD) :
    (Pipeline.ownSems0 (Ix := Unit) (Name := ℕ) (U := UU) (Lvl := ℕ) (Val := Elt F) (τ := τ) osem c : sProp 𝕄)
      = iprop(idle c ∗ (bigSep Finset.univ fun i => semVal (sendCell c i) 0) ∗ bigSep Finset.univ fun i => semVal (recvCell c i) 0) := by
  unfold Pipeline.ownSems0 idle; rw [bigSep_univ_sum, bigSep_univ_sum]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The cells' counters of a device are its barrier's, its departures' and its arrivals'. -/
theorem zeros_eq (c : Dev nD) : (bigSep Finset.univ fun k : CI => semVal (kcell (c, k)) 0 : sProp 𝕄) = zeros c := by
  unfold zeros; rw [bigSep_univ_sum, bigSep_univ_sum, Finset.univ_unique, bigSep_singleton]; rfl

omit [FloatOps F] in
theorem sems_split (c : Dev nD) :
    iprop(Pipeline.ownSems0 (Ix := Unit) (Name := ℕ) (U := UU) (Lvl := ℕ) (Val := Elt F) (τ := τ) osem c ∗ unscopedSems0 c)
      ⊢ iprop((bigSep Finset.univ fun k : CI => semVal (kcell (c, k)) 0) ∗ idle c : sProp 𝕄) := by
  rw [ownSems0_eq, unscopedSems0_eq, zeros_eq]
  unfold zeros
  iintro ⟨⟨Hi, HS, HV⟩, HB⟩
  isplitr [Hi]
  · isplitl [HB]; · iexact HB
    isplitl [HS] <;> iassumption
  iexact Hi

omit [FloatOps F] in
theorem sems_join (c : Dev nD) :
    iprop(zeros c ∗ idle c)
      ⊢ iprop(unscopedSems0 c ∗ Pipeline.ownSems0 (Ix := Unit) (Name := ℕ) (U := UU) (Lvl := ℕ) (Val := Elt F) (τ := τ) osem c : sProp 𝕄) := by
  rw [ownSems0_eq, unscopedSems0_eq]
  unfold zeros
  iintro ⟨⟨HB, HS, HV⟩, Hi⟩
  isplitl [HB]; · iexact HB
  isplitl [Hi]; · iexact Hi
  isplitl [HS] <;> iassumption

/-! ## The cells' invariants -/

theorem cell_alloc (c : Dev nD) :
    iprop((bigSep Finset.univ fun k : CI => semVal (kcell (c, k)) 0) ∗ bigSep Finset.univ fun k : CI => roundState ER (Rd (xOf m)) (kcell (c, k)) 0)
      ⊢ (|={Set.univ}=> bigSep Finset.univ fun k : CI => iprop(∃ κ : ℕ, cellInv ER (Rd (xOf m)) κ (kcell (c, k))) : sProp 𝕄) := by
  rw [← bigSep_sep']
  exact (bigSep_mono fun k _ => (Rounds.body_intro ER (Rd (xOf m)) (kcell (c, k))).trans inv_alloc).trans (bigSep_fupd _ _)

/-- What a device holds once its cells are allocated. -/
def held (c : Dev nD) : sProp 𝕄 :=
  iprop((bigSep Finset.univ fun k : CI => iprop(∃ κ : ℕ, cellInv ER (Rd (xOf m)) κ (kcell (c, k))))
          ∗ (bigSep Finset.univ fun k : CI => iprop(atPos ER (kcell (c, k)) 0 ∅ 0 ∗ reached ER (kcell (c, k)) 0)) ∗ ownToks c ∗ idle c)

theorem core_alloc (c : Dev nD) :
    iprop(Pipeline.ownSems0 (Ix := Unit) (Name := ℕ) (U := UU) (Lvl := ℕ) (Val := Elt F) (τ := τ) osem c ∗ unscopedSems0 c ∗ share m c)
      ⊢ |={Set.univ}=> held m c := by
  unfold share held
  iintro ⟨Hos, Hus, Hst, Hat, Htok⟩
  ihave Hv := (sems_split (F := F) c) $$ [Hos Hus]
  · isplitl [Hos] <;> iassumption
  icases Hv with ⟨Hv, Hi⟩
  imod (cell_alloc m c) $$ [Hv Hst] with Hinv
  · isplitl [Hv] <;> iassumption
  imodintro
  isplitl [Hinv]; · iexact Hinv
  isplitl [Hat]; · iexact Hat
  isplitl [Htok] <;> iassumption

/-! ## Dealing -/

omit [FloatOps F] in
/-- The tokens by the cells they are of are the tokens by the devices that pay them. -/
theorem toks_dealt : (bigSep Finset.univ fun c : Dev nD => (ownToks c : sProp 𝕄)) = bigSep Finset.univ fun c : Dev nD => payToks c := by
  unfold ownToks payToks
  rw [bigSep_sep', bigSep_sep', bigSep_sep', bigSep_sep',
    bigSep_turn fun (c : Dev nD) i => (dutyTok ER (recvCell c i) 0 0 : sProp 𝕄),
    bigSep_congr (s := Finset.univ) (fun (c : Dev nD) _ => bigSep_univ_equiv revE fun d : Fin 31 => (dutyTok ER (barCell c) 0 d : sProp 𝕄)),
    bigSep_turn fun (c : Dev nD) i => (dutyTok ER (barCell c) 0 (revE i) : sProp 𝕄)]
  rfl

omit [FloatOps F] in
/-- The positions of a device's cells, kind by kind. -/
theorem pos_eq (c : Dev nD) : (bigSep Finset.univ fun k : CI => atPos ER (kcell (c, k)) 0 ∅ 0 : sProp 𝕄)
    = iprop(atPos ER (barCell c) 0 ∅ 0 ∗ (bigSep Finset.univ fun i => atPos ER (sendCell c i) 0 ∅ 0) ∗ bigSep Finset.univ fun i => atPos ER (recvCell c i) 0 ∅ 0) := by
  rw [bigSep_univ_sum, bigSep_univ_sum, Finset.univ_unique, bigSep_singleton]; rfl

omit [FloatOps F] in
theorem bigSep_sharing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) :
    iprop(records (xOf m) K ∗ (bigSep Finset.univ fun k : CI => atPos ER (kcell (c, k)) 0 ∅ 0) ∗ payToks c ∗ idle c) ⊢ ghost m c := by
  rw [pos_eq]
  unfold ghost linear payToks
  iintro ⟨HR, Hpos, Htok, Hi⟩
  isplitl [HR]; · iexists K; iexact HR
  isplitr [Hi]
  · isplitl [Hpos]; · iexact Hpos
    iexact Htok
  iexact Hi

/-- From what each device holds alone to what each starts with. -/
theorem regroup : (bigSep Finset.univ (held m) : sProp 𝕄) ⊢ bigSep Finset.univ (ghost m) := by
  unfold held
  rw [bigSep_sep', bigSep_sep', bigSep_sep', ← bigSep_univ_prod (fun ck : Dev nD × CI => iprop(∃ κ : ℕ, cellInv ER (Rd (xOf m)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_dealt]
  iintro ⟨HI, ⟨Hat, #HR⟩, Htok, Hi⟩
  ihave HK := (BI.bigSep_exists_pi Finset.univ (fun (ck : Dev nD × CI) (κ : ℕ) => (cellInv ER (Rd (xOf m)) κ (kcell ck) : sProp 𝕄))) $$ HI
  icases HK with ⟨%K, #HI⟩
  iapply (bigSep_sharing (R := records (xOf m) K) fun c _ => ghost_intro m K c)
  isplitr
  · unfold records
    isplitl; · iexact HI
    iexact HR
  · simp only [bigSep_sep']
    isplitl [Hat]; · iexact Hat
    isplitl [Htok] <;> iassumption

/-- The step taken once for all devices. -/
theorem glob :
    (bigSep Finset.univ fun c => iprop(Pipeline.ownSems0 (Ix := Unit) (Name := ℕ) (U := UU) (Lvl := ℕ) (Val := Elt F) (τ := τ) osem c ∗ unscopedSems0 c ∗ share m c) : sProp 𝕄)
      ⊢ |={Set.univ}=> bigSep Finset.univ (ghost m) :=
  ((bigSep_mono fun c _ => core_alloc m c).trans (bigSep_fupd _ _)).trans (BI.fupd_mono (regroup m))

/-! ## The credits -/

omit [FloatOps F] in
/-- What is owed along a list of offsets, to one semaphore of the device at each: the launch gives a credit for each. -/
theorem creds_list (sm : Fin 31 → SemLoc sig) (n : ℕ) (c : Dev nD) : ∀ l : List (Fin 31),
    (Pipeline.launchCred (fun d => (l.map fun i => (tallyAt ((peer d i : Thread nD τ), sm i) () n : CellTallies nD τ sig Unit)).sum) c : sProp 𝕄)
      ⊢ bigSepL l fun i => cred (tallyAt ((c : Thread nD τ), sm i) () n)
  | [] => Entails.of_eq (Pipeline.launchCred_zero c)
  | i :: l => by
    simp only [List.map_cons, List.sum_cons]
    rw [Pipeline.launchCred_add, bigSepL_cons']
    exact BI.sep_mono (Pipeline.launchCred_tallyAt (sm i) (fun d => peer d i) (fun d => back d i) (fun d => peer_back d i) (fun d => back_peer d i) () n c)
      (creds_list sm n c l)

omit [FloatOps F] in
/-- Credits of one cell add up. -/
theorem creds_sum (g : GSem nD τ sig) : ∀ l : List (Fin 31),
    (bigSepL l fun _ => cred (tallyAt g () 1) : sProp 𝕄) ⊢ cred (tallyAt g () l.length)
  | [] => by rw [List.length_nil, tallyAt_zero, cred_zero]; exact BI.Entails.refl _
  | i :: l => by
    rw [bigSepL_cons', List.length_cons, ← tallyAt_add]
    exact (sep_mono_right (creds_sum g l)).trans (BI.sep_comm.trans (cred_add _ _).2)

omit [FloatOps F] in
/-- A device's credits. -/
theorem creds (c : Dev nD) : (Pipeline.launchCred O₀ c : sProp 𝕄) ⊢ credits c := by
  rw [show (O₀ : Dev nD → CellTallies nD τ sig Unit) = fun d => oweR d offs + oweB d offs from rfl, Pipeline.launchCred_add]
  unfold credits oweR oweB
  rw [bigSep_offs]
  iintro ⟨HR, HB⟩
  isplitl [HB]
  · iapply (creds_sum (F := F) (barCell c) offs)
    iapply (creds_list (F := F) (fun _ => .reg barS) 1 c offs)
    iexact HB
  · iapply (creds_list (F := F) (fun i => .dma (recvS i)) N c offs)
    iexact HR

end Cert.KernelIdeal.Exchange

end
-- ==== Proof.Run.lean ====
/- The run of the whole program, for any float values: it ends from every memory, each device's result holds what its
   kernel computes, the four arguments are unchanged, and every semaphore is back at zero. -/
module

public import proofs.«01_k».proof.Proof.Deal
public import Idealize.ShloMosaic.Lib.Pipeline.CollectiveSegs

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m 0 c).share w = fullShare := by unfold Dat.share; split <;> rfl

omit [FloatOps F] in
/-- The launch's resource in its parts; the counters' part is not needed. -/
theorem u₀_split : (ownU u₀ : sProp 𝕄)
    ⊢ iprop(BI.own (EP (F := F) (initOf (Pipeline.cells cfgs cellOf_inj) (Pipeline.launchToks cfgs cellOf_inj))) ∗ BI.own (ER (initOf cells duties))) := by
  unfold u₀
  iintro Hu
  ihave H := (ownU_pair _ _) $$ Hu
  icases H with ⟨HP, HX⟩
  isplitl [HP]; · iexact HP
  iexact HX

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start wWhole wOf
  isplitl
  · isplitl [HG]; · iexact HG
    isplitl [Hc]; · iexact Hc
    isplitl [Hlev]; · iexact Hlev
    iexact Hw
  · iempintro

omit [FloatOps F] in
theorem scratch_eq (c : Dev nD) :
    (Pipeline.scopedRest (Ix := Unit) (Name := ℕ) (U := UU) (Lvl := ℕ) (Val := Elt F) cfg0.spec c : sProp 𝕄) = scratch c := by
  rw [scopedRest0_eq]; rfl

theorem phi_enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi_leave (c : Dev nD) :
    (dats m 0 c).Φ (Fin.last cfg0.N)
      ⊢ iprop((unscopedSems0 c ∗ wWhole c (wOf m c)) ∗ Pipeline.ownSems0 osem c ∗ Pipeline.scopedRest cfg0.spec c) := by
  rw [show (dats m 0 c).Φ (Fin.last cfg0.N) = Φ₁ m c from rfl, scratch_eq]
  unfold Φ₁
  iintro ⟨Hscr, Hz, Hi, Hw⟩
  ihave Hs := (sems_join (F := F) c) $$ [Hz Hi]
  · isplitl [Hz] <;> iassumption
  icases Hs with ⟨Hu, Ho⟩
  isplitl [Hu Hw]
  · isplitl [Hu] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-- What is read off a device's final state beside the windows' arrays. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = wOf m c

theorem w_read (c : Dev nD) (s' : Phys nD τ sig (Elt F)) :
    iprop(wWhole c (wOf m c) ∗ SI s') ⊢ iprop(⌜s'.mem.mem ((c : Thread nD τ).loc main_arg1) = wOf m c⌝ ∗ SI s' : sProp 𝕄) := by
  have h := pointsTo_read_all (Ix := Unit) (Name := ℕ) (U := UU) (Lvl := ℕ) ({()} : Finset Unit) (fun _ => (c : Thread nD τ).loc main_arg1) (fun _ => wOf m c) s' fullShare
  rw [bigSep_singleton] at h
  unfold wWhole
  iintro H
  ihave H := h $$ H
  icases H with ⟨%e, H⟩
  isplitr
  · ipureintro; exact e () (Finset.mem_singleton_self _)
  iexact H

theorem read_end (c : Dev nD) (s' : Phys nD τ sig (Elt F)) :
    iprop((unscopedSems0 c ∗ wWhole c (wOf m c)) ∗ emp ∗ SI s') ⊢ |={Set.univ}=> iprop(⌜QY m c s'.mem⌝ ∗ SI s' : sProp 𝕄) := by
  iintro ⟨⟨Hu, Hw⟩, -, HSI⟩
  ihave H := (w_read m c s') $$ [Hw HSI]
  · isplitl [Hw] <;> iassumption
  icases H with ⟨%e, HSI⟩
  imod (Pipeline.unscopedSems0_read (X := unscopedSems0 c) (c := c) fupd_intro s') $$ [Hu HSI] with ⟨%hz, HSI⟩
  · isplitl [Hu] <;> iassumption
  imodintro
  isplitr
  · ipureintro; exact ⟨hz, e⟩
  iexact HSI

/-- The final contents of a window's array. -/
def finalA (c : Dev nD) (w : Fin cfg0.W) : Buf (Elt F) ((cfg0.win w).arr.view.loc (c : Thread nD τ)) := (dats m 0 c).arrAt w cfg0.N

/-- The result's array holds what the kernel computes. -/
theorem finalA_out (c : Dev nD) : finalA m c (3 : Fin 4) = outOf m c := by
  refine (read_win3 (F := F) (finalA m c (3 : Fin 4))).symm.trans ?_
  unfold finalA
  rw [show cfg0.N = (t0_0 : Fin cfg0.N).val + 1 from rfl, (dats m 0 c).arrAt_succ (3 : Fin 4) t0_0, flush0_3 t0_0, if_pos rfl]
  exact View.read_write_univ _ _

/-- What holds of a final state. -/
def Ends (s : MemSt nD τ sig (Elt F)) : Prop :=
  (∀ c : Dev nD, s.mem ((c : Thread nD τ).loc main_v1) = outOf m c
    ∧ s.mem ((c : Thread nD τ).loc main_arg0) = xOf m c ∧ s.mem ((c : Thread nD τ).loc main_arg1) = wOf m c
    ∧ s.mem ((c : Thread nD τ).loc main_arg2) = sxOf m c ∧ s.mem ((c : Thread nD τ).loc main_arg3) = swOf m c)
  ∧ s.sem = fun _ => 0

theorem ends_of (s : MemSt nD τ sig (Elt F))
    (h : ∀ c : Dev nD, (∀ w, s.mem ((cfg0.win w).arr.view.loc (c : Thread nD τ)) = finalA m c w) ∧ QY m c s) (hz : s.sem = fun _ => 0) : Ends m s :=
  ⟨fun c => ⟨((h c).1 (3 : Fin 4)).trans (finalA_out m c), ((h c).1 (0 : Fin 4)).trans ((dats m 0 c).arrAt_in (0 : Fin 4) rfl _), (h c).2.2,
    ((h c).1 (1 : Fin 4)).trans ((dats m 0 c).arrAt_in (1 : Fin 4) rfl _), ((h c).1 (2 : Fin 4)).trans ((dats m 0 c).arrAt_in (2 : Fin 4) rfl _)⟩, hz⟩

set_option maxRecDepth 100000 in
/-- Every execution of the program ends, and ends so. -/
theorem run_main : θ_run defs (onTc (τ := τ) (main (F := F))) ⟨m, fun _ => 0, ρ⟩ (fun r => Ends m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := share m) (G' := ghost m) (u₀ := u₀)
    (hu₀ := by
      iintro Hu
      ihave H := (u₀_split (F := F)) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => iprop(unscopedSems0 c ∗ wWhole c (wOf m c))) (Z := fun _ => iprop(emp))
    (hX := start_intro m ρ) (hin := phi_enter m) (hout := phi_leave m)
    (QY := QY m) (hY := read_end m)
    (hQ := fun s h hs => ends_of m s (fun c => ⟨(h c).1, (h c).2.2⟩) (sem_eq_zero hs fun c => (h c).2.2.1))

end Cert.KernelIdeal.Exchange

end
-- ==== Proof.Value.lean ====
/- The value of the result over the ideal reals: the running sum of the 16 products of 256 columns each is the whole
   contraction over 4096 columns. -/
module

public import proofs.«01_k».proof.Proof.Data
public import Idealize.ShloMosaic.Lib.Pointwise

@[expose] public section

noncomputable section

namespace Cert.KernelIdeal.Exchange

open Idealize.ShloMosaic Idealize.ShloMosaic.TcCoe
open Cert.KernelIdeal.Gen

/-! ## The payloads, element by element -/

/-- The first product stored. -/
theorem pay3_apply (a : Vec Ideal S128x256 .fp8e4m3) (b : Vec Ideal S1x256x8192 .f32) (j : S128x8192.Idx) :
    k0_pay3 a b j = ∑ i : Fin 256, a (ix2 (j 0) i) * b (ix3 0 i (j 1)) := by
  pointwise [k0_pay3]

/-- A later product added to what is there. -/
theorem pay4_apply (a : Vec Ideal S128x256 .fp8e4m3) (b : Vec Ideal S1x256x8192 .f32) (o : Vec Ideal S128x8192 .f32) (j : S128x8192.Idx) :
    k0_pay4 a b o j = o j + ∑ i : Fin 256, a (ix2 (j 0) i) * b (ix3 0 i (j 1)) := by
  pointwise [k0_pay4]

/-- The scaling and the clamp at zero. -/
theorem pay25_apply (sx sw : Elt Ideal .f32) (o : Vec Ideal S128x8192 .f32) (j : S128x8192.Idx) :
    k0_pay25 sx sw o j = max (o j * (sx * sw)) 0 := by
  pointwise [k0_pay25]

/-- The cast of a block keeps its elements. -/
theorem pay1_apply (x : Vec Ideal S4096x128 .f32) (j : S4096x128.Idx) : k0_pay1 x j = x j := by
  pointwise [k0_pay1]

/-! ## The operands -/

/-- Column number `n` of chunk `k`, position `i`. -/
def col (k : ℕ) (i : Fin 256) : Fin 4096 := ⟨k % 16 * 256 + i.val, by have := i.isLt; omega⟩

/-- What device `p` multiplies for column `n` of the contraction, at an index of its result. -/
def term (xs : Dev nD → Vec Ideal S4096x128 .f32) (w : Vec Ideal S4096x8192 .f32) (p : Dev nD) (j : S128x8192.Idx) (n : Fin 4096) : EReal :=
  xs (srcD (ix2 (j 0) n)) (srcI p (ix2 (j 0) n)) * w (ix2 n (j 1))

/-- A gathered block at an index. -/
theorem G_apply (xs : Dev nD → Vec Ideal S4096x128 .f32) (p : Dev nD) (j : S128x4096.Idx) : G xs p j = xs (srcD j) (srcI p j) :=
  pay1_apply (xs (srcD j)) (srcI p j)

/-- The left operand of a chunk at an index. -/
theorem opA_apply (xs : Dev nD → Vec Ideal S4096x128 .f32) (p : Dev nD) (k : ℕ) (r : Fin 128) (i : Fin 256) :
    opA xs p (ck k) (ix2 r i) = xs (srcD (ix2 r (col k i))) (srcI p (ix2 r (col k i))) := by
  have h : (xgR (ck k)).toLoadRect.idx (ix2 r i) = ix2 r (col k i) := by
    funext a
    apply Fin.ext
    match a with
    | ⟨0, _⟩ =>
      show 0 + 1 * r.val = r.val
      omega
    | ⟨1, _⟩ =>
      show 256 * (k % 16) + 1 * i.val = k % 16 * 256 + i.val
      omega
  show G xs p ((xgR (ck k)).toLoadRect.idx (ix2 r i)) = _
  rw [h]
  exact G_apply xs p _

/-- The right operand of a chunk at an index. -/
theorem opB_apply (w : Vec Ideal S4096x8192 .f32) (k : ℕ) (i : Fin 256) (n : Fin 8192) :
    opB w (ck k) (ix3 0 i n) = w (ix2 (col k i) n) := by
  have h : opB w (ck k) (ix3 0 i n) = (wV (ck k)).view.read (Elt Ideal) w (ix2 i n) := by
    unfold opB
    pointwise
  rw [h]
  show w _ = w _
  congr 1
  funext a
  apply Fin.ext
  match a with
  | ⟨0, _⟩ =>
    show 256 * (k % 16) + 1 * i.val = k % 16 * 256 + i.val
    omega
  | ⟨1, _⟩ =>
    show 0 + 1 * n.val = n.val
    omega

/-! ## The running sum -/

/-- After chunk `n` the result holds the sum of the chunks up to it. -/
theorem acc_apply (xs : Dev nD → Vec Ideal S4096x128 .f32) (w : Vec Ideal S4096x8192 .f32) (p : Dev nD) (j : S128x8192.Idx) (n : ℕ) :
    acc xs w p n j = ∑ k ∈ Finset.range (n + 1), ∑ i : Fin 256, term xs w p j (col k i) := by
  induction n with
  | zero =>
    rw [Finset.sum_range_one]
    show k0_pay3 _ _ j = _
    rw [pay3_apply]
    exact Finset.sum_congr rfl fun i _ => congrArg₂ (· * ·) (opA_apply ..) (opB_apply ..)
  | succ n ih =>
    rw [Finset.sum_range_succ, ← ih]
    show k0_pay4 _ _ _ j = _
    rw [pay4_apply]
    exact congrArg _ (Finset.sum_congr rfl fun i _ => congrArg₂ (· * ·) (opA_apply ..) (opB_apply ..))

/-- After the last chunk it holds the whole contraction. -/
theorem acc_last (xs : Dev nD → Vec Ideal S4096x128 .f32) (w : Vec Ideal S4096x8192 .f32) (p : Dev nD) (j : S128x8192.Idx) :
    acc xs w p 15 j = ∑ n : Fin 4096, term xs w p j n := by
  rw [acc_apply, Fin.sum_univ_tiles 16 256 (by decide), Finset.sum_range]
  refine Finset.sum_congr rfl fun k _ => Finset.sum_congr rfl fun i _ => congrArg _ (Fin.ext ?_)
  show k.val % 16 * 256 + i.val = k.val * 256 + i.val
  rw [Nat.mod_eq_of_lt k.isLt]

/-- The result of device `p` at an index. -/
theorem result_apply (xs : Dev nD → Vec Ideal S4096x128 .f32) (w : Vec Ideal S4096x8192 .f32) (sx sw : Elt Ideal .f32) (p : Dev nD) (j : S128x8192.Idx) :
    result xs w sx sw p j = max ((∑ n : Fin 4096, term xs w p j n) * (sx * sw)) 0 := by
  unfold result
  rw [pay25_apply, acc_last]

end Cert.KernelIdeal.Exchange

end
-- ==== Proof.RefValue.lean ====
/- What the reference computes, at an index, and that a device's result is its block of rows of it. -/
module

public import proofs.«01_k».proof.Proof.Value
public import proofs.«01_k».proof.Proof.Sound
public import proofs.«01_k».proof.Proof.Gen.ReferenceIdeal
public import Idealize.ShloMosaic.Lib.Layout

@[expose] public section

noncomputable section

namespace Cert.ReferenceIdeal.Value

open Idealize.ShloMosaic Idealize.ShloMosaic.TcCoe
open Cert.ReferenceIdeal Cert.ReferenceIdeal.Gen
open Cert.KernelIdeal.Exchange (only one_idx result result_apply term srcD srcI xIdx)

/-- What the reference computes of its four arguments. -/
def whole (x : FVec Ideal S4096x4096 .f32) (w : FVec Ideal S4096x8192 .f32) (sx sw : FVec Ideal S1 .f32) : FVec Ideal S4096x8192 .f32 :=
  maximumf (mulf (Host.dotGeneral dot_S4096x4096_S4096x8192_S4096x8192_1_0_0_1_n_n none x w)
      (broadcastInDim S4096x8192 ![0, 1] bcast_S1x1_S4096x8192_0_1 (broadcastInDim S1x1 ![1] bcast_S1_S1x1_1 (mulf sx sw))))
    (broadcastInDim S4096x8192 ![] bcast_S_S4096x8192 (constant S_ .f32 0x00000000#32))

/-- It is the scaled contraction, clamped at zero. -/
theorem whole_apply (x : Vec Ideal S4096x4096 .f32) (w : Vec Ideal S4096x8192 .f32) (sx sw : Vec Ideal S1 .f32) (j : S4096x8192.Idx) :
    whole x w sx sw j = max ((∑ n : Fin 4096, x (ix2 (j 0) n) * w (ix2 n (j 1))) * (only sx * only sw)) 0 := by
  rw [show only sx = sx (ix1 0) from congrArg sx (one_idx _ _), show only sw = sw (ix1 0) from congrArg sw (one_idx _ _)]
  pointwise [whole]

/-- From blocks of columns of `x`, a device's result is its block of rows of the reference's. -/
theorem result_block (x : Vec Ideal S4096x4096 .f32) (w : Vec Ideal S4096x8192 .f32) (sx sw : Vec Ideal S1 .f32) (p : Dev Cert.KernelIdeal.nD) :
    result (fun c => Layout.block ⟨2, ![4096, 128]⟩ ⟨2, ![4096, 4096]⟩ 1 32 c x) w (only sx) (only sw) p
      = Layout.block ⟨2, ![128, 8192]⟩ ⟨2, ![4096, 8192]⟩ 0 32 p (whole x w sx sw) := by
  funext j
  rw [result_apply, Layout.block_apply, whole_apply]
  congr 2
  refine Finset.sum_congr rfl fun n _ => congrArg₂ (· * ·) (congrArg x ?_) (congrArg w ?_)
  · funext a
    apply Fin.ext
    match a with
    | ⟨0, _⟩ =>
      show 128 * p.val + (j 0).val = p.val * 128 + (j 0).val
      omega
    | ⟨1, _⟩ =>
      show n.val / 128 * 128 + n.val % 128 = n.val
      omega
  · funext a
    match a with
    | ⟨0, _⟩ => rfl
    | ⟨1, _⟩ => rfl

end Cert.ReferenceIdeal.Value

end
-- ==== Proof.lean ====
/- The five claims: the kernel runs, terminates and leaves its arguments and every semaphore as they were, as written
   and read over the ideal reals; the reference does too; the two readings of the kernel are one program; and over the
   ideal reals the kernel's devices end holding the blocks of rows of what the reference computes. The kernel's run is
   proved once, for any float values (Proof/Run.lean), and the values compared in Proof/RefValue.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem
open Cert.KernelIdeal.Exchange (Ends run_main outOf xOf wOf sxOf swOf)

/-- The two printed programs of the kernel have the same body; -/
theorem body_same : @Cert.Kernel.cc0_body Bits _ _ = @Cert.KernelIdeal.cc0_body Bits _ _ := rfl

/-- so they have the same body table, -/
theorem table_same : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | 0, (_, _) => rfl

/-- also with the call's own steps in it. -/
theorem defs_same : Cert.Kernel.defs (F := Bits) = Cert.KernelIdeal.defs (F := Bits) :=
  congrArg (Pipeline.defs Cert.KernelIdeal.pcfgs) table_same

/-- On machine words the first printed program runs as the second does. -/
theorem run_written (m : (ℓ : Loc Cert.KernelIdeal.nD Cert.KernelIdeal.τ Cert.KernelIdeal.sig) → Buf (Elt Bits) ℓ)
    (ρ : Dev Cert.KernelIdeal.nD → PrngReg) :
    θ_run (Cert.Kernel.defs (F := Bits)) (onTc (τ := Cert.Kernel.τ) (Cert.Kernel.main (F := Bits))) ⟨m, fun _ => 0, ρ⟩ (fun r => Ends m r.2) := by
  rw [show Cert.Kernel.defs (F := Bits) = Cert.KernelIdeal.defs (F := Bits) from defs_same]
  exact run_main (F := Bits) m ρ

/-- The kernel as written ends quiescent, its arguments unchanged. -/
theorem frame_kernel : Cert.quiescent_Kernel := fun m ρ _ =>
  (θ_run Cert.Kernel.defs _ _).mono (fun _ h => ⟨fun c => (h.1 c).2, h.2⟩) (run_written m ρ)

/-- So does the kernel over the ideal reals. -/
theorem frame_ideal : Cert.quiescent_KernelIdeal := fun m ρ _ =>
  (θ_run Cert.KernelIdeal.defs _ _).mono (fun _ h => ⟨fun c => (h.1 c).2, h.2⟩) (run_main (F := Ideal) m ρ)

/-- So does the reference. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- What a device's kernel leaves, where its arguments are its parts of the reference's. -/
theorem out_block (m : (ℓ : Loc Cert.KernelIdeal.nD Cert.KernelIdeal.τ Cert.KernelIdeal.sig) → Buf (Elt Ideal) ℓ)
    (x : FVec Ideal Cert.ReferenceIdeal.S4096x4096 .f32) (w : FVec Ideal Cert.ReferenceIdeal.S4096x8192 .f32) (sx sw : FVec Ideal Cert.ReferenceIdeal.S1 .f32)
    (c : Dev Cert.KernelIdeal.nD) (hx : ∀ d, xOf m d = Layout.block ⟨2, ![4096, 128]⟩ ⟨2, ![4096, 4096]⟩ 1 32 d x)
    (hw : wOf m c = w) (hsx : sxOf m c = sx) (hsw : swOf m c = sw) :
    outOf m c = Layout.block ⟨2, ![128, 8192]⟩ ⟨2, ![4096, 8192]⟩ 0 32 c (Cert.ReferenceIdeal.Value.whole x w sx sw) := by
  unfold outOf
  rw [hw, hsx, hsw, show xOf m = _ from funext hx]
  exact Cert.ReferenceIdeal.Value.result_block x w sx sw c

/-- Over the ideal reals each device's result is its block of rows of the reference's result. -/
theorem algebraic : Cert.algebraic_KernelIdeal_ReferenceIdeal := fun m ρ m' ρ' _ hm =>
  ⟨_, (θ_run Cert.KernelIdeal.defs _ _).mono
      (fun _ h c => ⟨(h.1 c).1.trans (out_block m _ _ _ _ c (fun d => (hm d).1) (hm c).2.1 (hm c).2.2.1 (hm c).2.2.2), (h.1 c).2⟩)
      (run_main (F := Ideal) m ρ),
    (θ_run Cert.ReferenceIdeal.defs _ _).mono (fun _ h => h 0) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
